-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S16x1x7168 : Shape := ⟨3, ![16, 1, 7168]⟩
abbrev S20480x7168 : Shape := ⟨2, ![20480, 7168]⟩
abbrev S20480x224 : Shape := ⟨2, ![20480, 224]⟩
abbrev S_ : Shape := ⟨0, ![]⟩

class Facts : Prop where
  natLt_16_32 : 16 < 32
  bcast_S_S20480x224 : S_.BroadcastsInDim S20480x224 (![] : Fin 0 → Fin S20480x224.rank)
  reducesTo_S20480x224_S_d0_1 : S20480x224.ReducesTo [0, 1] S_
  h_S_ : 0 < S_.numel

variable [Facts]

def fn {F : FTy → Type} [FloatOps F] (main_arg0 : FVec F S16x1x7168 .bf16) (main_arg1 : IVec S20480x7168 8) (main_arg2 : IVec S20480x224 16) (main_arg3 : IVec S20480x7168 8) (main_arg4 : IVec S20480x224 16) : IVec S_ 1 :=
  let main_v0 : IVec S20480x224 32 := (extsi 32 · natLt_16_32) main_arg2
  let main_c : IVec S_ 32 := constantI S_ 32 31744#32
  let main_v1 : IVec S20480x224 32 := broadcastInDim S20480x224 ![] bcast_S_S20480x224 main_c
  let main_v2 : IVec S20480x224 32 := andi main_v0 main_v1
  let main_c_0 : IVec S_ 32 := constantI S_ 32 31744#32
  let main_v3 : IVec S20480x224 32 := broadcastInDim S20480x224 ![] bcast_S_S20480x224 main_c_0
  let main_v4 : IVec S20480x224 1 := cmpi .ne main_v2 main_v3
  let main_c_1 : IVec S_ 1 := constantI S_ 1 1#1
  let main_v5 : IVec S_ 1 := (fun x v => Host.reduce IntOp.andi x v reducesTo_S20480x224_S_d0_1 h_S_) main_v4 main_c_1
  let main_v6 : IVec S20480x224 32 := (extsi 32 · natLt_16_32) main_arg4
  let main_c_2 : IVec S_ 32 := constantI S_ 32 31744#32
  let main_v7 : IVec S20480x224 32 := broadcastInDim S20480x224 ![] bcast_S_S20480x224 main_c_2
  let main_v8 : IVec S20480x224 32 := andi main_v6 main_v7
  let main_c_3 : IVec S_ 32 := constantI S_ 32 31744#32
  let main_v9 : IVec S20480x224 32 := broadcastInDim S20480x224 ![] bcast_S_S20480x224 main_c_3
  let main_v10 : IVec S20480x224 1 := cmpi .ne main_v8 main_v9
  let main_c_4 : IVec S_ 1 := constantI S_ 1 1#1
  let main_v11 : IVec S_ 1 := (fun x v => Host.reduce IntOp.andi x v reducesTo_S20480x224_S_d0_1 h_S_) main_v10 main_c_4
  let main_v12 : IVec S_ 1 := andi main_v5 main_v11
  main_v12
-- ==== Kernel.lean ====
abbrev S16x1x7168 : Shape := ⟨3, ![16, 1, 7168]⟩
abbrev S20480x7168 : Shape := ⟨2, ![20480, 7168]⟩
abbrev S20480x224 : Shape := ⟨2, ![20480, 224]⟩
abbrev S16x7168 : Shape := ⟨2, ![16, 7168]⟩
abbrev S16x20480 : Shape := ⟨2, ![16, 20480]⟩
abbrev S512x7168 : Shape := ⟨2, ![512, 7168]⟩
abbrev S512x224 : Shape := ⟨2, ![512, 224]⟩
abbrev S16x512 : Shape := ⟨2, ![16, 512]⟩
abbrev S2x4x224x128 : Shape := ⟨4, ![2, 4, 224, 128]⟩
abbrev S2x2x256x512 : Shape := ⟨4, ![2, 2, 256, 512]⟩
abbrev S224x512 : Shape := ⟨2, ![224, 512]⟩
abbrev S224x128 : Shape := ⟨2, ![224, 128]⟩
abbrev S1x1x224x128 : Shape := ⟨4, ![1, 1, 224, 128]⟩
abbrev S512x256 : Shape := ⟨2, ![512, 256]⟩
abbrev S256x512 : Shape := ⟨2, ![256, 512]⟩
abbrev S1x1x256x512 : Shape := ⟨4, ![1, 1, 256, 512]⟩
abbrev S16x256 : Shape := ⟨2, ![16, 256]⟩
abbrev S1x1x32x128 : Shape := ⟨4, ![1, 1, 32, 128]⟩
abbrev S32x128 : Shape := ⟨2, ![32, 128]⟩
abbrev S1x1x1x128 : Shape := ⟨4, ![1, 1, 1, 128]⟩
abbrev S1x128 : Shape := ⟨2, ![1, 128]⟩
abbrev S32x256 : Shape := ⟨2, ![32, 256]⟩
abbrev S256x256 : Shape := ⟨2, ![256, 256]⟩
abbrev S16x1x20480 : Shape := ⟨3, ![16, 1, 20480]⟩

abbrev nBuf : Space → Nat
  | .hbm => 8
  | .vmem => 13
  | .smem => 0
  | _ => 0

abbrev bufTy : (tb : Table) → Fin (tcTables nBuf tb) → BufTy
  | .hbm, ⟨0, _⟩ => ⟨S16x1x7168, .bf16⟩
  | .hbm, ⟨1, _⟩ => ⟨S20480x7168, .i8⟩
  | .hbm, ⟨2, _⟩ => ⟨S20480x224, .i16⟩
  | .hbm, ⟨3, _⟩ => ⟨S20480x7168, .i8⟩
  | .hbm, ⟨4, _⟩ => ⟨S20480x224, .i16⟩
  | .hbm, ⟨5, _⟩ => ⟨S16x7168, .bf16⟩
  | .hbm, ⟨6, _⟩ => ⟨S16x20480, .bf16⟩
  | .hbm, ⟨7, _⟩ => ⟨S16x1x20480, .bf16⟩
  | .local _ .vmem, ⟨0, _⟩ => ⟨S16x7168, .bf16⟩
  | .local _ .vmem, ⟨1, _⟩ => ⟨S512x7168, .i8⟩
  | .local _ .vmem, ⟨2, _⟩ => ⟨S512x7168, .i8⟩
  | .local _ .vmem, ⟨3, _⟩ => ⟨S512x224, .i16⟩
  | .local _ .vmem, ⟨4, _⟩ => ⟨S512x224, .i16⟩
  | .local _ .vmem, ⟨5, _⟩ => ⟨S512x7168, .i8⟩
  | .local _ .vmem, ⟨6, _⟩ => ⟨S512x7168, .i8⟩
  | .local _ .vmem, ⟨7, _⟩ => ⟨S512x224, .i16⟩
  | .local _ .vmem, ⟨8, _⟩ => ⟨S512x224, .i16⟩
  | .local _ .vmem, ⟨9, _⟩ => ⟨S16x512, .bf16⟩
  | .local _ .vmem, ⟨10, _⟩ => ⟨S16x512, .bf16⟩
  | .local _ .vmem, ⟨11, _⟩ => ⟨S2x4x224x128, .f32⟩
  | .local _ .vmem, ⟨12, _⟩ => ⟨S2x2x256x512, .i8⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![40], ![false]⟩

def k0_mult1 : BitVec 32 :=
  let c0_i32_r0 : BitVec 32 := 0#32
  c0_i32_r0
@[reducible] def k0_t1_loop : Scf.Loop 32 :=
  let c0_i32_50_r0 : BitVec 32 := 0#32
  let c7_i32_r0 : BitVec 32 := 7#32
  let v87_r0 : BitVec 32 := Scalar.addi c0_i32_50_r0 c7_i32_r0
  let c1_i32_r0 : BitVec 32 := 1#32
  ⟨c0_i32_50_r0, v87_r0, c1_i32_r0⟩
def k0_mult2 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let c0_i32_57_r0 : BitVec 32 := 0#32
  let v105_r0 : BitVec 32 := Scalar.addi v104_r0 c0_i32_57_r0
  let c1_i32_58_r0 : BitVec 32 := 1#32
  let v106_r0 : BitVec 32 := Scalar.addi v105_r0 c1_i32_58_r0
  let c27_i32_r0 : BitVec 32 := 27#32
  let v107_r0 : BitVec 32 := Scalar.minsi v106_r0 c27_i32_r0
  let c256_i32_r0 : BitVec 32 := 256#32
  let v108_r0 : BitVec 32 := Scalar.muli v107_r0 c256_i32_r0
  v108_r0
def k0_off1 (k0_t1 : Fin k0_t1_loop.trips) (c0_i32_57_r0 : BitVec 32) : Fin 2 → Nat :=
  let c0_59_r0 : Index := 0#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c1_i32_58_r0 : BitVec 32 := 1#32
  let v106_r0 : BitVec 32 := Scalar.addi v105_r0 c1_i32_58_r0
  let c27_i32_r0 : BitVec 32 := 27#32
  let v107_r0 : BitVec 32 := Scalar.minsi v106_r0 c27_i32_r0
  let c256_i32_r0 : BitVec 32 := 256#32
  let v108_r0 : BitVec 32 := Scalar.muli v107_r0 c256_i32_r0
  let v109_r0 : BitVec 32 := v108_r0
  let v110_r0 : Index := Scalar.indexCast v109_r0
  ![0, v110_r0.toNat]
def k0_mult3 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let c0_i32_57_r0 : BitVec 32 := 0#32
  let v105_r0 : BitVec 32 := Scalar.addi v104_r0 c0_i32_57_r0
  let c256_i32_69_r0 : BitVec 32 := 256#32
  let v122_r0 : BitVec 32 := Scalar.muli v105_r0 c256_i32_69_r0
  v122_r0
def k0_off2 (k0_t1 : Fin k0_t1_loop.trips) (c0_i32_57_r0 : BitVec 32) : Fin 2 → Nat :=
  let c0_70_r0 : Index := 0#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c256_i32_69_r0 : BitVec 32 := 256#32
  let v122_r0 : BitVec 32 := Scalar.muli v105_r0 c256_i32_69_r0
  let v123_r0 : BitVec 32 := v122_r0
  let v124_r0 : Index := Scalar.indexCast v123_r0
  ![0, v124_r0.toNat]
def k0_off3 (k0_t1 : Fin k0_t1_loop.trips) (c0_i32_57_r0 : BitVec 32) (c0_i32_75_r0 : BitVec 32) : Fin 4 → Nat :=
  let c0_76_r0 : Index := 0#32
  let c0_77_r0 : Index := 0#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_r0 : BitVec 32 := 8#32
  let v129_r0 : BitVec 32 := Scalar.muli v105_r0 c8_i32_r0
  let v130_r0 : BitVec 32 := Scalar.addi v129_r0 c0_i32_75_r0
  let v131_r0 : Index := Scalar.indexCast v130_r0
  let c0_78_r0 : Index := 0#32
  ![0, 0, v131_r0.toNat, 0]
def k0_off4 (k0_t1 : Fin k0_t1_loop.trips) (c0_i32_57_r0 : BitVec 32) (c0_i32_83_r0 : BitVec 32) : Fin 4 → Nat :=
  let c0_84_r0 : Index := 0#32
  let c1_85_r0 : Index := 1#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_82_r0 : BitVec 32 := 8#32
  let v141_r0 : BitVec 32 := Scalar.muli v105_r0 c8_i32_82_r0
  let v142_r0 : BitVec 32 := Scalar.addi v141_r0 c0_i32_83_r0
  let v143_r0 : Index := Scalar.indexCast v142_r0
  let c0_86_r0 : Index := 0#32
  ![0, 1, v143_r0.toNat, 0]
def k0_off5 (k0_t1 : Fin k0_t1_loop.trips) (c0_i32_57_r0 : BitVec 32) (c0_i32_208_r0 : BitVec 32) : Fin 4 → Nat :=
  let c1_209_r0 : Index := 1#32
  let c0_210_r0 : Index := 0#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_207_r0 : BitVec 32 := 8#32
  let v330_r0 : BitVec 32 := Scalar.muli v105_r0 c8_i32_207_r0
  let v331_r0 : BitVec 32 := Scalar.addi v330_r0 c0_i32_208_r0
  let v332_r0 : Index := Scalar.indexCast v331_r0
  let c0_211_r0 : Index := 0#32
  ![1, 0, v332_r0.toNat, 0]
def k0_off6 (k0_t1 : Fin k0_t1_loop.trips) (c0_i32_57_r0 : BitVec 32) (c0_i32_217_r0 : BitVec 32) : Fin 4 → Nat :=
  let c1_218_r0 : Index := 1#32
  let c1_219_r0 : Index := 1#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_216_r0 : BitVec 32 := 8#32
  let v342_r0 : BitVec 32 := Scalar.muli v105_r0 c8_i32_216_r0
  let v343_r0 : BitVec 32 := Scalar.addi v342_r0 c0_i32_217_r0
  let v344_r0 : Index := Scalar.indexCast v343_r0
  let c0_220_r0 : Index := 0#32
  ![1, 1, v344_r0.toNat, 0]
def k0_off7 (k0_t1 : Fin k0_t1_loop.trips) (c0_i32_57_r0 : BitVec 32) (c0_i32_352_r0 : BitVec 32) : Fin 4 → Nat :=
  let c0_353_r0 : Index := 0#32
  let c2_354_r0 : Index := 2#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_351_r0 : BitVec 32 := 8#32
  let v531_r0 : BitVec 32 := Scalar.muli v105_r0 c8_i32_351_r0
  let v532_r0 : BitVec 32 := Scalar.addi v531_r0 c0_i32_352_r0
  let v533_r0 : Index := Scalar.indexCast v532_r0
  let c0_355_r0 : Index := 0#32
  ![0, 2, v533_r0.toNat, 0]
def k0_off8 (k0_t1 : Fin k0_t1_loop.trips) (c0_i32_57_r0 : BitVec 32) (c0_i32_360_r0 : BitVec 32) : Fin 4 → Nat :=
  let c0_361_r0 : Index := 0#32
  let c3_362_r0 : Index := 3#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_359_r0 : BitVec 32 := 8#32
  let v543_r0 : BitVec 32 := Scalar.muli v105_r0 c8_i32_359_r0
  let v544_r0 : BitVec 32 := Scalar.addi v543_r0 c0_i32_360_r0
  let v545_r0 : Index := Scalar.indexCast v544_r0
  let c0_363_r0 : Index := 0#32
  ![0, 3, v545_r0.toNat, 0]
def k0_off9 (k0_t1 : Fin k0_t1_loop.trips) (c0_i32_57_r0 : BitVec 32) (c0_i32_495_r0 : BitVec 32) : Fin 4 → Nat :=
  let c1_496_r0 : Index := 1#32
  let c2_497_r0 : Index := 2#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_494_r0 : BitVec 32 := 8#32
  let v732_r0 : BitVec 32 := Scalar.muli v105_r0 c8_i32_494_r0
  let v733_r0 : BitVec 32 := Scalar.addi v732_r0 c0_i32_495_r0
  let v734_r0 : Index := Scalar.indexCast v733_r0
  let c0_498_r0 : Index := 0#32
  ![1, 2, v734_r0.toNat, 0]
def k0_off10 (k0_t1 : Fin k0_t1_loop.trips) (c0_i32_57_r0 : BitVec 32) (c0_i32_504_r0 : BitVec 32) : Fin 4 → Nat :=
  let c1_505_r0 : Index := 1#32
  let c3_506_r0 : Index := 3#32
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_r0 : BitVec 32 := 4#32
  let v104_r0 : BitVec 32 := Scalar.muli v103_r0 c4_i32_r0
  let v105_r0 : BitVec 32 := Scalar.addi v104_r0 c0_i32_57_r0
  let c8_i32_503_r0 : BitVec 32 := 8#32
  let v744_r0 : BitVec 32 := Scalar.muli v105_r0 c8_i32_503_r0
  let v745_r0 : BitVec 32 := Scalar.addi v744_r0 c0_i32_504_r0
  let v746_r0 : Index := Scalar.indexCast v745_r0
  let c0_507_r0 : Index := 0#32
  ![1, 3, v746_r0.toNat, 0]
def k0_mult4 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_634_r0 : BitVec 32 := 4#32
  let v931_r0 : BitVec 32 := Scalar.muli v103_r0 c4_i32_634_r0
  let c1_i32_635_r0 : BitVec 32 := 1#32
  let v932_r0 : BitVec 32 := Scalar.addi v931_r0 c1_i32_635_r0
  let c1_i32_636_r0 : BitVec 32 := 1#32
  let v933_r0 : BitVec 32 := Scalar.addi v932_r0 c1_i32_636_r0
  let c27_i32_637_r0 : BitVec 32 := 27#32
  let v934_r0 : BitVec 32 := Scalar.minsi v933_r0 c27_i32_637_r0
  let c256_i32_638_r0 : BitVec 32 := 256#32
  let v935_r0 : BitVec 32 := Scalar.muli v934_r0 c256_i32_638_r0
  v935_r0
def k0_mult5 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_634_r0 : BitVec 32 := 4#32
  let v931_r0 : BitVec 32 := Scalar.muli v103_r0 c4_i32_634_r0
  let c1_i32_635_r0 : BitVec 32 := 1#32
  let v932_r0 : BitVec 32 := Scalar.addi v931_r0 c1_i32_635_r0
  let c256_i32_649_r0 : BitVec 32 := 256#32
  let v949_r0 : BitVec 32 := Scalar.muli v932_r0 c256_i32_649_r0
  v949_r0
def k0_mult6 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_1227_r0 : BitVec 32 := 4#32
  let v1758_r0 : BitVec 32 := Scalar.muli v103_r0 c4_i32_1227_r0
  let c2_i32_1228_r0 : BitVec 32 := 2#32
  let v1759_r0 : BitVec 32 := Scalar.addi v1758_r0 c2_i32_1228_r0
  let c1_i32_1229_r0 : BitVec 32 := 1#32
  let v1760_r0 : BitVec 32 := Scalar.addi v1759_r0 c1_i32_1229_r0
  let c27_i32_1230_r0 : BitVec 32 := 27#32
  let v1761_r0 : BitVec 32 := Scalar.minsi v1760_r0 c27_i32_1230_r0
  let c256_i32_1231_r0 : BitVec 32 := 256#32
  let v1762_r0 : BitVec 32 := Scalar.muli v1761_r0 c256_i32_1231_r0
  v1762_r0
def k0_mult7 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_1227_r0 : BitVec 32 := 4#32
  let v1758_r0 : BitVec 32 := Scalar.muli v103_r0 c4_i32_1227_r0
  let c2_i32_1228_r0 : BitVec 32 := 2#32
  let v1759_r0 : BitVec 32 := Scalar.addi v1758_r0 c2_i32_1228_r0
  let c256_i32_1242_r0 : BitVec 32 := 256#32
  let v1776_r0 : BitVec 32 := Scalar.muli v1759_r0 c256_i32_1242_r0
  v1776_r0
def k0_mult8 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_1820_r0 : BitVec 32 := 4#32
  let v2585_r0 : BitVec 32 := Scalar.muli v103_r0 c4_i32_1820_r0
  let c3_i32_1821_r0 : BitVec 32 := 3#32
  let v2586_r0 : BitVec 32 := Scalar.addi v2585_r0 c3_i32_1821_r0
  let c1_i32_1822_r0 : BitVec 32 := 1#32
  let v2587_r0 : BitVec 32 := Scalar.addi v2586_r0 c1_i32_1822_r0
  let c27_i32_1823_r0 : BitVec 32 := 27#32
  let v2588_r0 : BitVec 32 := Scalar.minsi v2587_r0 c27_i32_1823_r0
  let c256_i32_1824_r0 : BitVec 32 := 256#32
  let v2589_r0 : BitVec 32 := Scalar.muli v2588_r0 c256_i32_1824_r0
  v2589_r0
def k0_mult9 (k0_t1 : Fin k0_t1_loop.trips) : BitVec 32 :=
  let c0_i32_56_r0 : BitVec 32 := 0#32
  let c0_i32_50_r0 : BitVec 32 := 0#32
  let c1_i32_r0 : BitVec 32 := 1#32
  let arg9_r0 : BitVec 32 := Scf.iv c0_i32_50_r0 c1_i32_r0 k0_t1
  let c1_i32_55_r0 : BitVec 32 := 1#32
  let v102_r0 : BitVec 32 := Scalar.muli arg9_r0 c1_i32_55_r0
  let v103_r0 : BitVec 32 := Scalar.addi c0_i32_56_r0 v102_r0
  let c4_i32_1820_r0 : BitVec 32 := 4#32
  let v2585_r0 : BitVec 32 := Scalar.muli v103_r0 c4_i32_1820_r0
  let c3_i32_1821_r0 : BitVec 32 := 3#32
  let v2586_r0 : BitVec 32 := Scalar.addi v2585_r0 c3_i32_1821_r0
  let c256_i32_1835_r0 : BitVec 32 := 256#32
  let v2603_r0 : BitVec 32 := Scalar.muli v2586_r0 c256_i32_1835_r0
  v2603_r0
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x224 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x7168 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x224 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x7168 : Shape := ⟨3, ![16, 1, 7168]⟩
abbrev S20480x7168 : Shape := ⟨2, ![20480, 7168]⟩
abbrev S20480x224 : Shape := ⟨2, ![20480, 224]⟩
abbrev S16x1x20480 : Shape := ⟨3, ![16, 1, 20480]⟩
abbrev S20480x224x32 : Shape := ⟨3, ![20480, 224, 32]⟩
abbrev S20480x224x1 : Shape := ⟨3, ![20480, 224, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x1x7168, .bf16⟩
  | .hbm, ⟨1, _⟩ => ⟨S20480x7168, .i8⟩
  | .hbm, ⟨2, _⟩ => ⟨S20480x224, .i16⟩
  | .hbm, ⟨3, _⟩ => ⟨S20480x7168, .i8⟩
  | .hbm, ⟨4, _⟩ => ⟨S20480x224, .i16⟩
  | .hbm, ⟨5, _⟩ => ⟨S20480x224, .f16⟩
  | .hbm, ⟨6, _⟩ => ⟨S20480x224, .f16⟩
  | .hbm, ⟨7, _⟩ => ⟨S16x1x20480, .bf16⟩
  | .local _ .vmem, ⟨0, _⟩ => ⟨S16x1x7168, .bf16⟩
  | .local _ .vmem, ⟨1, _⟩ => ⟨S20480x7168, .i8⟩
  | .local _ .vmem, ⟨2, _⟩ => ⟨S20480x224, .f16⟩
  | .local _ .vmem, ⟨3, _⟩ => ⟨S20480x7168, .i8⟩
  | .local _ .vmem, ⟨4, _⟩ => ⟨S20480x224, .f16⟩
  | .local _ .vmem, ⟨5, _⟩ => ⟨S16x1x20480, .bf16⟩
  | _, _ => ⟨S16x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x1x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20480x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20480x224 .f16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20480x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20480x224 .f16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x20480 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Tile.lean ====
module

public import proofs.«01_k».proof.Proof.Gen.KernelIdeal
public import Idealize.ShloMosaic.Lib.Tactic
public import Idealize.ShloMosaic.Lib.Mxu.PassChain

/-! What one trip of the kernel's loop computes, written as functions of the contents it reads: the 256×256 tiles of
dequantised weights, the four steps a chunk of 256 columns takes on the matrix units, and the pieces it stores into the
buffer of transposed codes. -/

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- What a load of the box `r` reads of the contents `X`. -/
abbrev ldAt {s : Shape} {α : Type} (X : s.Idx → α) (r : Rect s) : r.shape.Idx → α := fun x => X (r.toLoadRect.idx x)

/-- One 32×128 group of weights: the codes times the scales of their quantisation block, one scale per column. -/
def cell (q : Vec F S1x1x32x128 .i8) (d : Vec F S1x1x1x128 .f32) : FVec F S32x128 .bf16 :=
  truncf .bf16 (mulf (extf .f32 (sitofp .bf16 (shapeCast S32x128 q shapeCasts_S1x1x32x128_S32x128 : IVec S32x128 8)) bitsLt_bf16_f32)
    (broadcastTo S32x128 (shapeCast S1x128 d shapeCasts_S1x1x1x128_S1x128) broadcasts_S1x128_S32x128)) bitsLt_bf16_f32

/-- Two groups side by side. -/
def rowOf (q : Fin 2 → Vec F S1x1x32x128 .i8) (d : Fin 2 → Vec F S1x1x1x128 .f32) : FVec F S32x256 .bf16 :=
  concatenate S32x256 1 [⟨S32x128, cell (q 0) (d 0)⟩, ⟨S32x128, cell (q 1) (d 1)⟩] concatenates_S32x128_S32x128_S32x256_d1

/-- Eight such rows stacked: a 256×256 tile of weights. -/
def tileOf (q : Fin 8 → Fin 2 → Vec F S1x1x32x128 .i8) (d : Fin 8 → Fin 2 → Vec F S1x1x1x128 .f32) : FVec F S256x256 .bf16 :=
  concatenate S256x256 0 [⟨S32x256, rowOf (q 0) (d 0)⟩, ⟨S32x256, rowOf (q 1) (d 1)⟩, ⟨S32x256, rowOf (q 2) (d 2)⟩,
    ⟨S32x256, rowOf (q 3) (d 3)⟩, ⟨S32x256, rowOf (q 4) (d 4)⟩, ⟨S32x256, rowOf (q 5) (d 5)⟩, ⟨S32x256, rowOf (q 6) (d 6)⟩,
    ⟨S32x256, rowOf (q 7) (d 7)⟩] concatenates_S32x256_S32x256_S32x256_S32x256_S32x256_S32x256_S32x256_S32x256_S256x256_d0

/-- Where the program reads the scales of matrix `m`, columns `256·half + 128·j …` of the block. -/
def scOff (half m j : Fin 2) (k : Fin k0_t1_loop.trips) (c kb : BitVec 32) : Fin S2x4x224x128.rank → ℕ :=
  match half, m, j with
  | 0, 0, 0 => k0_off3 k c kb
  | 0, 0, 1 => k0_off4 k c kb
  | 0, 1, 0 => k0_off5 k c kb
  | 0, 1, 1 => k0_off6 k c kb
  | 1, 0, 0 => k0_off7 k c kb
  | 1, 0, 1 => k0_off8 k c kb
  | 1, 1, 0 => k0_off9 k c kb
  | 1, 1, 1 => k0_off10 k c kb

/-- The place in closed form: matrix, group of 128 columns, quantisation block, first lane. -/
theorem scOff_eq (half m j : Fin 2) (k : Fin k0_t1_loop.trips) (c : Fin 4) (kb : Fin 8) :
    scOff half m j k (BitVec.ofNat 32 c.val) (BitVec.ofNat 32 kb.val)
      = ![m.val, 2 * half.val + j.val, 32 * k.val + 8 * c.val + kb.val, 0] := by
  match half, m, j with
  | 0, 0, 0 => exact k0_off3_eq k c kb
  | 0, 0, 1 => exact k0_off4_eq k c kb
  | 0, 1, 0 => exact k0_off5_eq k c kb
  | 0, 1, 1 => exact k0_off6_eq k c kb
  | 1, 0, 0 => exact k0_off7_eq k c kb
  | 1, 0, 1 => exact k0_off8_eq k c kb
  | 1, 1, 0 => exact k0_off9_eq k c kb
  | 1, 1, 1 => exact k0_off10_eq k c kb

/-- The loop makes seven trips. -/
theorem trips_lt (k : Fin k0_t1_loop.trips) : k.val < 7 := k.isLt

/-- The scales a trip reads lie within their buffer. -/
theorem scOff_inb (half m j : Fin 2) (k : Fin k0_t1_loop.trips) (c : Fin 4) (kb : Fin 8) :
    ∀ a, scOff half m j k (BitVec.ofNat 32 c.val) (BitVec.ofNat 32 kb.val) a + S1x1x1x128.size a ≤ S2x4x224x128.size a := by
  rw [scOff_eq]
  have hk := trips_lt k
  intro a
  match a with
  | 0 => change m.val + 1 ≤ 2; omega
  | 1 => change 2 * half.val + j.val + 1 ≤ 4; omega
  | 2 => change 32 * k.val + 8 * c.val + kb.val + 1 ≤ 224; omega
  | 3 => change 0 + 128 ≤ 128; omega

/-- The codes a tile reads lie within the buffer of transposed codes. -/
theorem codeOff_inb (slot half m : Fin 2) (kb : Fin 8) (j : Fin 2) :
    ∀ a, (![slot.val, m.val, 32 * kb.val, 256 * half.val + 128 * j.val] : Fin S2x2x256x512.rank → ℕ) a + S1x1x32x128.size a ≤ S2x2x256x512.size a := by
  intro a
  match a with
  | 0 => change slot.val + 1 ≤ 2; omega
  | 1 => change m.val + 1 ≤ 2; omega
  | 2 => change 32 * kb.val + 32 ≤ 256; omega
  | 3 => change 256 * half.val + 128 * j.val + 128 ≤ 512; omega

/-- The 128 scales of quantisation block `32k + 8c + kb`, in the group of columns `256·half + 128·j …` of matrix `m`. -/
def scaleAt (S : Vec F S2x4x224x128 .f32) (k : Fin k0_t1_loop.trips) (c : Fin 4) (half m : Fin 2) (kb : Fin 8) (j : Fin 2) :
    Vec F S1x1x1x128 .f32 :=
  ldAt S (Rect.unit (s := S2x4x224x128) (scOff half m j k (BitVec.ofNat 32 c.val) (BitVec.ofNat 32 kb.val)) S1x1x1x128.size (scOff_inb half m j k c kb))

/-- The 32×128 codes of group `kb`, `j` in slot `slot` of the buffer of transposed codes. -/
def codeAt (Y : Vec F S2x2x256x512 .i8) (slot half m : Fin 2) (kb : Fin 8) (j : Fin 2) : Vec F S1x1x32x128 .i8 :=
  ldAt Y (Rect.unit (s := S2x2x256x512) ![slot.val, m.val, 32 * kb.val, 256 * half.val + 128 * j.val] S1x1x32x128.size (codeOff_inb slot half m kb j))

/-- The tile of matrix `m`, half `half` of the block's columns, of chunk `c` of trip `k`. -/
def tileAt (Y : Vec F S2x2x256x512 .i8) (S : Vec F S2x4x224x128 .f32) (k : Fin k0_t1_loop.trips) (c : Fin 4) (slot half m : Fin 2) :
    FVec F S256x256 .bf16 :=
  tileOf (codeAt Y slot half m) (scaleAt S k c half m)

/-- The 16×256 activations of chunk `c` of trip `k`. -/
def xAt (X : Vec F S16x7168 .bf16) (k : Fin k0_t1_loop.trips) (c : Fin 4) : FVec F S16x256 .bf16 :=
  shapeCast S16x256 (ldAt X (Rect.unit (s := S16x7168) (k0_off2 k (BitVec.ofNat 32 c.val)) S16x256.size (k0_off2_inb k c))) shapeCasts_S16x256_S16x256

/-- What a chunk does to the matrix units: each of the four tiles is pushed and the activations accumulated against it, the
    halves at addresses 0 and 4, the matrices on units 0 and 1. -/
def chunkStep (x : FVec F S16x256 .bf16) (t : Fin 2 → Fin 2 → FVec F S256x256 .bf16) (s : Mxu F) : Mxu F :=
  Mxu.pushAcc 1 1 false 4 fits_4_16 (Mxu.pushAcc 0 1 false 4 fits_4_16
    (Mxu.pushAcc 1 0 false 0 fits_0_16 (Mxu.pushAcc 0 0 false 0 fits_0_16 s (t 0 0) x) (t 0 1) x) (t 1 0) x) (t 1 1) x

/-- A 256-column chunk of a block's codes, transposed. -/
def transposed (Q : Vec F S512x256 .i8) : Vec F S1x1x256x512 .i8 :=
  shapeCast S1x1x256x512 (transpose S256x512 [1, 0] Q transposes_S512x256_p1_0_S256x512) shapeCasts_S256x512_S1x1x256x512

/-- The box of matrix `m` in slot `slot`. -/
theorem slot_inb (slot m : Fin 2) :
    ∀ a, (![slot.val, m.val, 0, 0] : Fin S2x2x256x512.rank → ℕ) a + S1x1x256x512.size a ≤ S2x2x256x512.size a := by
  intro a
  match a with
  | 0 => change slot.val + 1 ≤ 2; omega
  | 1 => change m.val + 1 ≤ 2; omega
  | 2 => change 0 + 256 ≤ 256; omega
  | 3 => change 0 + 512 ≤ 512; omega

/-- The codes chunk `c` of trip `k` transposes for the chunk after it. -/
def nextCodes (Q : Vec F S512x7168 .i8) (k : Fin k0_t1_loop.trips) (c : Fin 4) : Vec F S512x256 .i8 :=
  ldAt Q (Rect.unit (s := S512x7168) (k0_off1 k (BitVec.ofNat 32 c.val)) S512x256.size (k0_off1_inb k c))

/-- The two stores that put the next chunk's transposed codes into slot `slot`. -/
def putCodes (Qg Qu : Vec F S512x7168 .i8) (k : Fin k0_t1_loop.trips) (c : Fin 4) (slot : Fin 2)
    (L : List (View.Piece (Elt F) S2x2x256x512 .i8)) : List (View.Piece (Elt F) S2x2x256x512 .i8) :=
  ⟨Rect.unit (s := S2x2x256x512) ![slot.val, (1 : Fin 2).val, 0, 0] S1x1x256x512.size (slot_inb slot 1), transposed (nextCodes Qu k c)⟩
    :: ⟨Rect.unit (s := S2x2x256x512) ![slot.val, (0 : Fin 2).val, 0, 0] S1x1x256x512.size (slot_inb slot 0), transposed (nextCodes Qg k c)⟩ :: L

/-- The stores of a trip before its chunk `n` is multiplied, last first. -/
def tripPieces (Qg Qu : Vec F S512x7168 .i8) (k : Fin k0_t1_loop.trips) : Fin 5 → List (View.Piece (Elt F) S2x2x256x512 .i8)
  | 0 => []
  | 1 => putCodes Qg Qu k 0 1 []
  | 2 => putCodes Qg Qu k 1 0 (putCodes Qg Qu k 0 1 [])
  | 3 => putCodes Qg Qu k 2 1 (putCodes Qg Qu k 1 0 (putCodes Qg Qu k 0 1 []))
  | 4 => putCodes Qg Qu k 3 0 (putCodes Qg Qu k 2 1 (putCodes Qg Qu k 1 0 (putCodes Qg Qu k 0 1 [])))

end Cert.Proof.KI

end
-- ==== Proof.Trip.lean ====
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Mxu.Walk
public import proofs.«01_k».proof.Proof.Tile

/-! One trip of the kernel's loop: four chunks of 256 columns each. -/

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A push and accumulation step is settled by the state, the tile and the activations. -/
theorem step_congr {q : Fin 2} {r : Fin 2} {A : ℕ} {h : Mxu.Fits A 16} {s s' : Mxu F} {t t' : FVec F S256x256 .bf16} {x x' : FVec F S16x256 .bf16}
    (hs : s = s') (ht : t = t') (hx : x = x') : (s.pushed q r false t).accLhs q r A x h = Mxu.pushAcc q r false A h s' t' x' := by
  subst hs; subst ht; subst hx; rfl

/-- A group of weights is settled by its codes and its scales. -/
theorem cell_congr {q q' : Vec F S1x1x32x128 .i8} {d d' : Vec F S1x1x1x128 .f32} (hq : q = q') (hd : d = d') :
    truncf .bf16 (mulf (extf .f32 (sitofp .bf16 (shapeCast S32x128 q shapeCasts_S1x1x32x128_S32x128 : IVec S32x128 8)) bitsLt_bf16_f32)
      (broadcastTo S32x128 (shapeCast S1x128 d shapeCasts_S1x1x1x128_S1x128) broadcasts_S1x128_S32x128)) bitsLt_bf16_f32
      = cell q' d' := by
  subst hq; subst hd; rfl

/-- A row is settled by its two groups. -/
theorem rowOf_congr {a b : FVec F S32x128 .bf16} {q : Fin 2 → Vec F S1x1x32x128 .i8} {d : Fin 2 → Vec F S1x1x1x128 .f32}
    (ha : a = cell (q 0) (d 0)) (hb : b = cell (q 1) (d 1)) :
    concatenate S32x256 1 [⟨S32x128, a⟩, ⟨S32x128, b⟩] concatenates_S32x128_S32x128_S32x256_d1 = rowOf q d := by
  subst ha; subst hb; rfl

/-- A tile is settled by its eight rows. -/
theorem tileOf_congr {a b c e f g h i : FVec F S32x256 .bf16} {q : Fin 8 → Fin 2 → Vec F S1x1x32x128 .i8}
    {d : Fin 8 → Fin 2 → Vec F S1x1x1x128 .f32} (ha : a = rowOf (q 0) (d 0)) (hb : b = rowOf (q 1) (d 1)) (hc : c = rowOf (q 2) (d 2))
    (he : e = rowOf (q 3) (d 3)) (hf : f = rowOf (q 4) (d 4)) (hg : g = rowOf (q 5) (d 5)) (hh : h = rowOf (q 6) (d 6))
    (hi : i = rowOf (q 7) (d 7)) :
    concatenate S256x256 0 [⟨S32x256, a⟩, ⟨S32x256, b⟩, ⟨S32x256, c⟩, ⟨S32x256, e⟩, ⟨S32x256, f⟩, ⟨S32x256, g⟩, ⟨S32x256, h⟩, ⟨S32x256, i⟩]
      concatenates_S32x256_S32x256_S32x256_S32x256_S32x256_S32x256_S32x256_S32x256_S256x256_d0 = tileOf q d := by
  subst ha; subst hb; subst hc; subst he; subst hf; subst hg; subst hh; subst hi; rfl

/-- What each chunk of a trip reads its codes from: chunk 0 what the buffer held, a later chunk what the trip has stored. -/
def codesSeen (v : View sig .tc .vmem S2x2x256x512 .i8) (f : v.ty.Contents (Elt F))
    (L : Fin 5 → List (View.Piece (Elt F) S2x2x256x512 .i8)) : Fin 4 → Vec F S2x2x256x512 .i8
  | 0 => v.read (Elt F) f
  | 1 => v.read (Elt F) (v.writes (Elt F) v.junk (L 2))
  | 2 => v.read (Elt F) (v.writes (Elt F) v.junk (L 3))
  | 3 => v.read (Elt F) (v.writes (Elt F) v.junk (L 4))

/-- What a trip does to the matrix units: its four chunks in turn, chunk `n` on the codes `Y n` in the buffer before it. -/
def tripStep (X : Vec F S16x7168 .bf16) (S : Vec F S2x4x224x128 .f32) (Y : Fin 4 → Vec F S2x2x256x512 .i8)
    (k : Fin k0_t1_loop.trips) (s : Mxu F) : Mxu F :=
  chunkStep (xAt X k 3) (tileAt (Y 3) S k 3 1) (chunkStep (xAt X k 2) (tileAt (Y 2) S k 2 0)
    (chunkStep (xAt X k 1) (tileAt (Y 1) S k 1 1) (chunkStep (xAt X k 0) (tileAt (Y 0) S k 0 0) s)))

set_option maxHeartbeats 4000000 in
set_option maxRecDepth 65536 in
/-- A trip, from empty staging registers: the units take the four chunks' steps, the buffer of transposed codes the trip's
    stores, and nothing else changes. -/
theorem trip (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole) (k0_mxu1 : Mxu F) (v57 : FVec F S224x512 .f32) (v66 : FVec F S224x128 .f32)
   (k : Fin k0_t1_loop.trips) (s : Mxu F) (hreg : ∀ q r, s.reg q r = none)
   (f1 : Buf (Elt F) (arg1.view.loc (c : Thread nD τ))) (f2 : Buf (Elt F) (arg2.view.loc (c : Thread nD τ)))
   (f4 : Buf (Elt F) (arg4.view.loc (c : Thread nD τ))) (f7 : Buf (Elt F) (arg7.view.loc (c : Thread nD τ)))
   (f8 : Buf (Elt F) (arg8.view.loc (c : Thread nD τ))) :
   (iprop((arg1.view.loc (c : Thread nD τ) ↦{fullShare} f1) ∗ (arg2.view.loc (c : Thread nD τ) ↦{fullShare} f2)
     ∗ (arg4.view.loc (c : Thread nD τ) ↦{fullShare} f4) ∗ (arg7.view.loc (c : Thread nD τ) ↦{fullShare} f7)
     ∗ (arg8.view.loc (c : Thread nD τ) ↦{fullShare} f8)) : sProp 𝕄)
   ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 k0_mxu1 v57 v66 k s)
      (fun s' => iprop(⌜s' = tripStep (arg1.view.read (Elt F) f1) (arg7.view.read (Elt F) f7)
          (codesSeen arg8.view f8 (tripPieces (arg2.view.read (Elt F) f2) (arg4.view.read (Elt F) f4) k)) k s⌝
        ∗ (arg1.view.loc (c : Thread nD τ) ↦{fullShare} f1) ∗ (arg2.view.loc (c : Thread nD τ) ↦{fullShare} f2)
        ∗ (arg4.view.loc (c : Thread nD τ) ↦{fullShare} f4) ∗ (arg7.view.loc (c : Thread nD τ) ↦{fullShare} f7)
        ∗ (arg8.view.loc (c : Thread nD τ) ↦{fullShare} arg8.view.writes (Elt F) f8 (tripPieces (arg2.view.read (Elt F) f2) (arg4.view.read (Elt F) f4) k 4)))) := by
  unfold k0_t1_body
  iintro ⟨H1, H2, H4, H7, H8⟩
  sl_exec_parts (disch := (mxu_pushok_peel <;> exact Mxu.pushOk_of_none _ _ _ _ (hreg _ _)))
  sl_step
  isplitr
  · ipureintro
    unfold tripStep chunkStep
    refine step_congr (step_congr (step_congr (step_congr ?_ ?_ ?_) ?_ ?_) ?_ ?_) ?_ ?_
    refine step_congr (step_congr (step_congr (step_congr ?_ ?_ ?_) ?_ ?_) ?_ ?_) ?_ ?_
    refine step_congr (step_congr (step_congr (step_congr ?_ ?_ ?_) ?_ ?_) ?_ ?_) ?_ ?_
    refine step_congr (step_congr (step_congr (step_congr ?_ ?_ ?_) ?_ ?_) ?_ ?_) ?_ ?_
    all_goals first
      | (refine tileOf_congr ?_ ?_ ?_ ?_ ?_ ?_ ?_ ?_ <;> refine rowOf_congr ?_ ?_ <;> refine cell_congr ?_ ?_ <;> rfl)
      | rfl
  · iframe H1 H2 H4 H7
    iexact H8

end Cert.Proof.KI

end
-- ==== Proof.Chunk.lean ====
module

public import proofs.«01_k».proof.Proof.Trip
public import Idealize.ShloMosaic.Lib.WritesUnit
public import Idealize.ShloMosaic.Lib.ValueLayout

/-! The matrix units before each of the 28 chunks, as a function of a block's contents alone: the codes a chunk reads are the
chunk's own columns of the two code matrices, whichever slot of the buffer they were transposed into. -/

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI

variable {F : FTy → Type} [FloatOps F]

/-- The chunk counted `n`, held at the last one. -/
def ch (n : ℕ) : ℕ := min n 27

/-- There are 28 chunks. -/
theorem ch_lt (n : ℕ) : ch n < 28 := by unfold ch; omega

/-- Within the 28 a chunk is counted as it is. -/
theorem ch_of_lt {n : ℕ} (h : n < 28) : ch n = n := by unfold ch; omega

/-- The codes of chunk `n`, group `kb`, `j`: the matrix's columns `256·n + 32·kb …`, rows `256·half + 128·j …`, transposed. -/
def codeOf (Q : Vec F S512x7168 .i8) (n : ℕ) (half : Fin 2) (kb : Fin 8) (j : Fin 2) : Vec F S1x1x32x128 .i8 :=
  fun i => Q (ix2 (⟨256 * half.val + 128 * j.val + (i 3).val, by have : (i 3).val < 128 := (i 3).isLt; omega⟩ : Fin 512)
    (⟨256 * ch n + 32 * kb.val + (i 2).val, by have : (i 2).val < 32 := (i 2).isLt; have := ch_lt n; omega⟩ : Fin 7168))

/-- The scales of chunk `n`, group `kb`, `j`. -/
def scaleOf (S : Vec F S2x4x224x128 .f32) (n : ℕ) (half m : Fin 2) (kb : Fin 8) (j : Fin 2) : Vec F S1x1x1x128 .f32 :=
  fun i => S (ix4 m (⟨2 * half.val + j.val, by omega⟩ : Fin 4) (⟨8 * ch n + kb.val, by have := ch_lt n; omega⟩ : Fin 224)
    (⟨(i 3).val, by have : (i 3).val < 128 := (i 3).isLt; omega⟩ : Fin 128))

/-- The activations of chunk `n`. -/
def xOf (X : Vec F S16x7168 .bf16) (n : ℕ) : FVec F S16x256 .bf16 :=
  fun i => X (ix2 (⟨(i 0).val, (i 0).isLt⟩ : Fin 16)
    (⟨256 * ch n + (i 1).val, by have : (i 1).val < 256 := (i 1).isLt; have := ch_lt n; omega⟩ : Fin 7168))

/-- The tiles of chunk `n`. -/
def tileW (Q : Fin 2 → Vec F S512x7168 .i8) (S : Vec F S2x4x224x128 .f32) (n : ℕ) (half m : Fin 2) : FVec F S256x256 .bf16 :=
  tileOf (codeOf (Q m) n half) (scaleOf S n half m)

/-- The matrix units before chunk `n`. -/
def stateAt (X : Vec F S16x7168 .bf16) (Q : Fin 2 → Vec F S512x7168 .i8) (S : Vec F S2x4x224x128 .f32) (s : Mxu F) : ℕ → Mxu F
  | 0 => s
  | n + 1 => chunkStep (xOf X n) (tileW Q S n) (stateAt X Q S s n)

/-- Slot `slot` of the buffer of transposed codes holds chunk `n`. -/
def Holds (Y : Vec F S2x2x256x512 .i8) (Q : Fin 2 → Vec F S512x7168 .i8) (slot : Fin 2) (n : ℕ) : Prop :=
  ∀ (m : Fin 2) (a : Fin 256) (b : Fin 512), Y (ix4 slot m a b) = Q m (ix2 b (⟨256 * ch n + a.val, by have := ch_lt n; omega⟩ : Fin 7168))

/-- The transposed codes read at an index. -/
theorem transposed_apply (Q : Vec F S512x256 .i8) (a : Fin 256) (b : Fin 512) :
    transposed (F := F) Q (ix4 (0 : Fin 1) (0 : Fin 1) a b) = Q (ix2 b a) := by
  unfold transposed
  refine (shapeCast_apply _ _ _ (ix2 a b) ?_).trans (transpose_ix2_apply Q _ a b)
  rw [Shape.rowMajor_val_two, Shape.rowMajor_val_four]
  simp

/-- The codes chunk `c` of trip `k` brings in are those of the chunk after it. -/
theorem nextCodes_apply (Q : Vec F S512x7168 .i8) (k : Fin k0_t1_loop.trips) (c : Fin 4) (b : Fin 512) (a : Fin 256) :
    nextCodes (F := F) Q k c (ix2 b a) = Q (ix2 b (⟨256 * ch (4 * k.val + c.val + 1) + a.val, by have := ch_lt (4 * k.val + c.val + 1); omega⟩ : Fin 7168)) := by
  unfold nextCodes ldAt
  refine congrArg Q (funext fun i => Fin.ext ?_)
  have h := k0_off1_eq k c
  match i with
  | ⟨0, _⟩ =>
    show k0_off1 k (BitVec.ofNat 32 c.val) 0 + 1 * b.val = b.val
    rw [h]; show 0 + 1 * b.val = b.val; omega
  | ⟨1, _⟩ =>
    show k0_off1 k (BitVec.ofNat 32 c.val) 1 + 1 * a.val = _
    rw [h]; show 256 * (min (4 * k.val + c.val + 1) 27) + 1 * a.val = 256 * min (4 * k.val + c.val + 1) 27 + a.val; omega

/-- After the two stores of the next chunk, their slot holds it. -/
theorem holds_putCodes (v : View sig .tc .vmem S2x2x256x512 .i8) (f : v.ty.Contents (Elt F)) (Q : Fin 2 → Vec F S512x7168 .i8)
    (k : Fin k0_t1_loop.trips) (c : Fin 4) (slot : Fin 2) (L : List (View.Piece (Elt F) S2x2x256x512 .i8)) :
    Holds (v.read (Elt F) (v.writes (Elt F) f (putCodes (Q 0) (Q 1) k c slot L))) Q slot (4 * k.val + c.val + 1) := by
  intro m a b
  have hx : ∀ (m' : Fin 2) (x : Fin 4), ((ix4 slot m' a b : S2x2x256x512.Idx) x).val
      = (![slot.val, m'.val, 0, 0] : Fin 4 → ℕ) x + ((ix4 (0 : Fin 1) (0 : Fin 1) a b : S1x1x256x512.Idx) x).val := fun m' x => by
    match x with
    | ⟨0, _⟩ => rfl
    | ⟨1, _⟩ => rfl
    | ⟨2, _⟩ => exact (Nat.zero_add _).symm
    | ⟨3, _⟩ => exact (Nat.zero_add _).symm
  unfold putCodes
  match m with
  | 1 =>
    refine (View.read_writes_cons_unit_of_mem v f (slot_inb slot 1) _ _ _ (ix4 (0 : Fin 1) (0 : Fin 1) a b) rfl (hx 1)).trans ?_
    exact (transposed_apply _ a b).trans (nextCodes_apply _ k c b a)
  | 0 =>
    rw [View.read_writes_cons_unit_of_not_mem v f _ _ _ _ rfl (1 : Fin 4) (Or.inl (by show (0:ℕ) < 1; omega))]
    refine (View.read_writes_cons_unit_of_mem v f (slot_inb slot 0) _ _ _ (ix4 (0 : Fin 1) (0 : Fin 1) a b) rfl (hx 0)).trans ?_
    exact (transposed_apply _ a b).trans (nextCodes_apply _ k c b a)

/-- The two stores leave the other slot as it was. -/
theorem holds_putCodes_ne (v : View sig .tc .vmem S2x2x256x512 .i8) (f : v.ty.Contents (Elt F)) (Q : Fin 2 → Vec F S512x7168 .i8)
    (Qg Qu : Vec F S512x7168 .i8)
    (k : Fin k0_t1_loop.trips) (c : Fin 4) (slot slot' : Fin 2) (hne : slot' ≠ slot) (L : List (View.Piece (Elt F) S2x2x256x512 .i8)) (n : ℕ)
    (h : Holds (v.read (Elt F) (v.writes (Elt F) f L)) Q slot' n) :
    Holds (v.read (Elt F) (v.writes (Elt F) f (putCodes Qg Qu k c slot L))) Q slot' n := by
  intro m a b
  unfold putCodes
  have hv : slot'.val ≠ slot.val := fun e => hne (Fin.ext e)
  have ho : ∀ m' : Fin 2, (slot'.val < slot.val ∨ slot.val + 1 ≤ slot'.val) := fun _ => by omega
  rw [View.read_writes_cons_unit_of_not_mem v f _ _ _ _ rfl (0 : Fin 4) (ho 1),
    View.read_writes_cons_unit_of_not_mem v f _ _ _ _ rfl (0 : Fin 4) (ho 0)]
  exact h m a b

/-- The codes a tile reads from a slot that holds a chunk are the chunk's. -/
theorem codeAt_of_holds {Y : Vec F S2x2x256x512 .i8} {Q : Fin 2 → Vec F S512x7168 .i8} {slot : Fin 2} {n : ℕ} (h : Holds Y Q slot n)
    (half m : Fin 2) : codeAt (F := F) Y slot half m = codeOf (Q m) n half := by
  funext kb j i
  have e : (Rect.unit (s := S2x2x256x512) ![slot.val, m.val, 32 * kb.val, 256 * half.val + 128 * j.val] S1x1x32x128.size
      (codeOff_inb slot half m kb j)).toLoadRect.idx i
      = ix4 slot m (⟨32 * kb.val + (i 2).val, by have : (i 2).val < 32 := (i 2).isLt; omega⟩ : Fin 256)
        (⟨256 * half.val + 128 * j.val + (i 3).val, by have : (i 3).val < 128 := (i 3).isLt; omega⟩ : Fin 512) := by
    have h0 : (i 0).val < 1 := (i 0).isLt
    have h1 : (i 1).val < 1 := (i 1).isLt
    funext x
    refine Fin.ext ?_
    match x with
    | ⟨0, _⟩ => show slot.val + 1 * (i 0).val = slot.val; omega
    | ⟨1, _⟩ => show m.val + 1 * (i 1).val = m.val; omega
    | ⟨2, _⟩ => show 32 * kb.val + 1 * (i 2).val = 32 * kb.val + (i 2).val; omega
    | ⟨3, _⟩ => show 256 * half.val + 128 * j.val + 1 * (i 3).val = 256 * half.val + 128 * j.val + (i 3).val; omega
  show Y _ = _
  rw [e, h]
  refine congrArg (Q m) (funext fun x => Fin.ext ?_)
  match x with
  | ⟨0, _⟩ => rfl
  | ⟨1, _⟩ => show 256 * ch n + (32 * kb.val + (i 2).val) = 256 * ch n + 32 * kb.val + (i 2).val; omega

/-- The scales a trip reads are the chunk's. -/
theorem scaleAt_eq (S : Vec F S2x4x224x128 .f32) (k : Fin k0_t1_loop.trips) (c : Fin 4) (half m : Fin 2) :
    scaleAt (F := F) S k c half m = scaleOf S (4 * k.val + c.val) half m := by
  funext kb j i
  have h0 : (i 0).val < 1 := (i 0).isLt
  have h1 : (i 1).val < 1 := (i 1).isLt
  have h2 : (i 2).val < 1 := (i 2).isLt
  have hk := trips_lt k
  have he := scOff_eq half m j k c kb
  unfold scaleAt scaleOf ldAt
  refine congrArg S (funext fun x => Fin.ext ?_)
  match x with
  | ⟨0, _⟩ => show scOff half m j k (BitVec.ofNat 32 c.val) (BitVec.ofNat 32 kb.val) 0 + 1 * (i 0).val = m.val; rw [he]; show m.val + 1 * (i 0).val = m.val; omega
  | ⟨1, _⟩ => show scOff half m j k (BitVec.ofNat 32 c.val) (BitVec.ofNat 32 kb.val) 1 + 1 * (i 1).val = 2 * half.val + j.val; rw [he]; show 2 * half.val + j.val + 1 * (i 1).val = 2 * half.val + j.val; omega
  | ⟨2, _⟩ => show scOff half m j k (BitVec.ofNat 32 c.val) (BitVec.ofNat 32 kb.val) 2 + 1 * (i 2).val = 8 * ch (4 * k.val + c.val) + kb.val; rw [he]; show 32 * k.val + 8 * c.val + kb.val + 1 * (i 2).val = 8 * min (4 * k.val + c.val) 27 + kb.val; omega
  | ⟨3, _⟩ => show scOff half m j k (BitVec.ofNat 32 c.val) (BitVec.ofNat 32 kb.val) 3 + 1 * (i 3).val = (i 3).val; rw [he]; show 0 + 1 * (i 3).val = (i 3).val; omega

/-- The activations a trip reads are the chunk's. -/
theorem xAt_eq (X : Vec F S16x7168 .bf16) (k : Fin k0_t1_loop.trips) (c : Fin 4) : xAt (F := F) X k c = xOf X (4 * k.val + c.val) := by
  funext i
  have hk := trips_lt k
  have he := k0_off2_eq k c
  unfold xAt xOf
  refine (shapeCast_apply _ _ _ i rfl).trans ?_
  refine congrArg X (funext fun x => Fin.ext ?_)
  match x with
  | ⟨0, _⟩ => show k0_off2 k (BitVec.ofNat 32 c.val) 0 + 1 * (i 0).val = (i 0).val; rw [he]; show 0 + 1 * (i 0).val = (i 0).val; omega
  | ⟨1, _⟩ => show k0_off2 k (BitVec.ofNat 32 c.val) 1 + 1 * (i 1).val = 256 * min (4 * k.val + c.val) 27 + (i 1).val; rw [he]; show 1024 * k.val + 256 * c.val + 1 * (i 1).val = 256 * min (4 * k.val + c.val) 27 + (i 1).val; omega

/-- The tiles a trip reads from a slot that holds its chunk are the chunk's. -/
theorem tileAt_of_holds {Y : Vec F S2x2x256x512 .i8} {Q : Fin 2 → Vec F S512x7168 .i8} {slot : Fin 2} (S : Vec F S2x4x224x128 .f32)
    {k : Fin k0_t1_loop.trips} {c : Fin 4} (h : Holds Y Q slot (4 * k.val + c.val)) :
    tileAt (F := F) Y S k c slot = tileW Q S (4 * k.val + c.val) := by
  funext half m
  unfold tileAt tileW
  rw [codeAt_of_holds h, scaleAt_eq]

/-- A trip takes the matrix units through four chunks, where slot 0 held the first of them. -/
theorem tripStep_eq (v : View sig .tc .vmem S2x2x256x512 .i8) (f : v.ty.Contents (Elt F)) (X : Vec F S16x7168 .bf16)
    (Q : Fin 2 → Vec F S512x7168 .i8) (S : Vec F S2x4x224x128 .f32) (s : Mxu F) (k : Fin k0_t1_loop.trips)
    (h : Holds (v.read (Elt F) f) Q 0 (4 * k.val)) :
    tripStep X S (codesSeen v f (tripPieces (Q 0) (Q 1) k)) k (stateAt X Q S s (4 * k.val)) = stateAt X Q S s (4 * (k.val + 1)) := by
  show _ = chunkStep (xOf X (4 * k.val + 3)) (tileW Q S (4 * k.val + 3)) (chunkStep (xOf X (4 * k.val + 2)) (tileW Q S (4 * k.val + 2))
    (chunkStep (xOf X (4 * k.val + 1)) (tileW Q S (4 * k.val + 1)) (chunkStep (xOf X (4 * k.val)) (tileW Q S (4 * k.val)) (stateAt X Q S s (4 * k.val)))))
  have h0 : tileAt (codesSeen v f (tripPieces (Q 0) (Q 1) k) 0) S k 0 0 = tileW Q S (4 * k.val) := tileAt_of_holds S (c := 0) h
  have h1 : tileAt (codesSeen v f (tripPieces (Q 0) (Q 1) k) 1) S k 1 1 = tileW Q S (4 * k.val + 1) :=
    tileAt_of_holds S (c := 1) (holds_putCodes_ne v _ Q _ _ k 1 0 1 (by decide) _ _ (holds_putCodes v _ Q k 0 1 _))
  have h2 : tileAt (codesSeen v f (tripPieces (Q 0) (Q 1) k) 2) S k 2 0 = tileW Q S (4 * k.val + 2) :=
    tileAt_of_holds S (c := 2) (holds_putCodes_ne v _ Q _ _ k 2 1 0 (by decide) _ _ (holds_putCodes v _ Q k 1 0 _))
  have h3 : tileAt (codesSeen v f (tripPieces (Q 0) (Q 1) k) 3) S k 3 1 = tileW Q S (4 * k.val + 3) :=
    tileAt_of_holds S (c := 3) (holds_putCodes_ne v _ Q _ _ k 3 0 1 (by decide) _ _ (holds_putCodes v _ Q k 2 1 _))
  unfold tripStep
  rw [h0, h1, h2, h3, xAt_eq, xAt_eq, xAt_eq, xAt_eq]
  rfl

/-- After a trip slot 0 holds the next trip's first chunk. -/
theorem holds_trip (v : View sig .tc .vmem S2x2x256x512 .i8) (f : v.ty.Contents (Elt F)) (Q : Fin 2 → Vec F S512x7168 .i8)
    (k : Fin k0_t1_loop.trips) :
    Holds (v.read (Elt F) (v.writes (Elt F) f (tripPieces (Q 0) (Q 1) k 4))) Q 0 (4 * (k.val + 1)) :=
  holds_putCodes v f Q k 3 0 _

/-- A step leaves empty registers empty. -/
theorem reg_pushAcc_none {q r : Fin 2} {A : ℕ} {h : Mxu.Fits A 16} (s : Mxu F) (t : FVec F S256x256 .bf16) (x : FVec F S16x256 .bf16)
    (hs : ∀ q r, s.reg q r = none) (q' r' : Fin 2) : (Mxu.pushAcc q r false A h s t x).reg q' r' = none := by
  by_cases e : q' = q ∧ r' = r
  · obtain ⟨rfl, rfl⟩ := e
    exact Mxu.reg_pushAcc _ _ _ _ _ _ _ _
  · unfold Mxu.pushAcc
    rw [Mxu.reg_accLhs_ne _ _ _ _ _ _ _ _ e, Mxu.reg_pushed_ne _ _ _ _ _ _ _ e]
    exact hs q' r'

/-- A chunk's steps leave the staging registers empty. -/
theorem reg_chunkStep (x : FVec F S16x256 .bf16) (t : Fin 2 → Fin 2 → FVec F S256x256 .bf16) (s : Mxu F)
    (h : ∀ q r, s.reg q r = none) : ∀ q r, (chunkStep x t s).reg q r = none :=
  reg_pushAcc_none _ _ _ (reg_pushAcc_none _ _ _ (reg_pushAcc_none _ _ _ (reg_pushAcc_none _ _ _ h)))

/-- Before every chunk the staging registers are empty. -/
theorem reg_stateAt (X : Vec F S16x7168 .bf16) (Q : Fin 2 → Vec F S512x7168 .i8) (S : Vec F S2x4x224x128 .f32) (s : Mxu F)
    (h : ∀ q r, s.reg q r = none) (n : ℕ) (q r : Fin 2) : (stateAt X Q S s n).reg q r = none := by
  induction n generalizing q r with
  | zero => exact h q r
  | succ n ih => exact reg_chunkStep _ _ _ ih q r

end Cert.Proof.KI

end
-- ==== Proof.Loop.lean ====
module

public import proofs.«01_k».proof.Proof.Chunk

/-! The kernel's loop: the matrix units and the buffer of transposed codes before each trip. -/

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The matrix units and the contents of the buffer of transposed codes before trip `k`. -/
def loopAt (X : Vec F S16x7168 .bf16) (Q : Fin 2 → Vec F S512x7168 .i8) (S : Vec F S2x4x224x128 .f32)
    (v : View sig .tc .vmem S2x2x256x512 .i8) (s : Mxu F) (f : v.ty.Contents (Elt F)) : ℕ → Mxu F × v.ty.Contents (Elt F)
  | 0 => (s, f)
  | k + 1 =>
    if h : k < k0_t1_loop.trips then
      (tripStep X S (codesSeen v (loopAt X Q S v s f k).2 (tripPieces (Q 0) (Q 1) ⟨k, h⟩)) ⟨k, h⟩ (loopAt X Q S v s f k).1,
        v.writes (Elt F) (loopAt X Q S v s f k).2 (tripPieces (Q 0) (Q 1) ⟨k, h⟩ 4))
    else loopAt X Q S v s f k

/-- Trip `k` takes the units to what they are before trip `k + 1`. -/
theorem loopAt_fst (X : Vec F S16x7168 .bf16) (Q : Fin 2 → Vec F S512x7168 .i8) (S : Vec F S2x4x224x128 .f32)
    (v : View sig .tc .vmem S2x2x256x512 .i8) (s : Mxu F) (f : v.ty.Contents (Elt F)) (k : Fin k0_t1_loop.trips) :
    (loopAt X Q S v s f (k.val + 1)).1
      = tripStep X S (codesSeen v (loopAt X Q S v s f k.val).2 (tripPieces (Q 0) (Q 1) k)) k (loopAt X Q S v s f k.val).1 := by
  rw [loopAt, dif_pos k.isLt]

/-- Trip `k` takes the buffer to what it is before trip `k + 1`. -/
theorem loopAt_snd (X : Vec F S16x7168 .bf16) (Q : Fin 2 → Vec F S512x7168 .i8) (S : Vec F S2x4x224x128 .f32)
    (v : View sig .tc .vmem S2x2x256x512 .i8) (s : Mxu F) (f : v.ty.Contents (Elt F)) (k : Fin k0_t1_loop.trips) :
    (loopAt X Q S v s f (k.val + 1)).2 = v.writes (Elt F) (loopAt X Q S v s f k.val).2 (tripPieces (Q 0) (Q 1) k 4) := by
  rw [loopAt, dif_pos k.isLt]

/-- From empty staging registers every trip begins with empty ones. -/
theorem reg_loopAt (X : Vec F S16x7168 .bf16) (Q : Fin 2 → Vec F S512x7168 .i8) (S : Vec F S2x4x224x128 .f32)
    (v : View sig .tc .vmem S2x2x256x512 .i8) (s : Mxu F) (f : v.ty.Contents (Elt F)) (h : ∀ q r, s.reg q r = none) (k : ℕ) :
    ∀ q r, (loopAt X Q S v s f k).1.reg q r = none := by
  induction k with
  | zero => exact h
  | succ k ih =>
    rw [loopAt]
    split
    · exact reg_chunkStep _ _ _ (reg_chunkStep _ _ _ (reg_chunkStep _ _ _ (reg_chunkStep _ _ _ ih)))
    · exact ih

/-- Where slot 0 held the first chunk, the units before trip `k` are those before chunk `4k`. -/
theorem loopAt_eq (X : Vec F S16x7168 .bf16) (Q : Fin 2 → Vec F S512x7168 .i8) (S : Vec F S2x4x224x128 .f32)
    (v : View sig .tc .vmem S2x2x256x512 .i8) (s : Mxu F) (f : v.ty.Contents (Elt F)) (h : Holds (v.read (Elt F) f) Q 0 0) (k : ℕ)
    (hk : k ≤ 7) : (loopAt X Q S v s f k).1 = stateAt X Q S s (4 * k) ∧ Holds (v.read (Elt F) (loopAt X Q S v s f k).2) Q 0 (4 * k) := by
  induction k with
  | zero => exact ⟨rfl, h⟩
  | succ k ih =>
    obtain ⟨h1, h2⟩ := ih (by omega)
    have hk' : k < k0_t1_loop.trips := by show k < 7; omega
    refine ⟨(loopAt_fst X Q S v s f ⟨k, hk'⟩).trans ?_, ?_⟩
    · refine (congrArg (tripStep X S _ _) h1).trans ?_
      exact tripStep_eq v _ X Q S s ⟨k, hk'⟩ h2
    · have e := loopAt_snd X Q S v s f ⟨k, hk'⟩
      have e' := holds_trip v (loopAt X Q S v s f k).2 Q ⟨k, hk'⟩
      rw [← e] at e'
      exact e'

attribute [irreducible] loopAt

/-- The units before trip `k`, those before the first trip spelled out. -/
@[reducible] def loopUnits (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) : Mxu F :=
  match k with
  | 0 => s
  | k + 1 => (loopAt X Q S v s f (k + 1)).1

/-- The buffer before trip `k`, that before the first trip spelled out. -/
@[reducible] def loopBuf (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) : v.ty.Contents (Elt F) :=
  match k with
  | 0 => f
  | k + 1 => (loopAt X Q S v s f (k + 1)).2

/-- The units are `loopAt`'s. -/
theorem loopUnits_eq (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) :
    loopUnits X Q S v s f k = (loopAt X Q S v s f k).1 := by
  cases k with
  | zero => unfold loopAt; rfl
  | succ k => rfl

/-- And the buffer is. -/
theorem loopBuf_eq (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) :
    loopBuf X Q S v s f k = (loopAt X Q S v s f k).2 := by
  cases k with
  | zero => unfold loopAt; rfl
  | succ k => rfl

/-- The loop's invariant: the units and the buffer are those before trip `k`; the activations, the codes and the scales stay. -/
@[instance_reducible, sl_loop] def loopInv_k0_t1 (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole) (k0_mxu1 : Mxu F) (v57 : FVec F S224x512 .f32) (v66 : FVec F S224x128 .f32)
    (f1 : Buf (Elt F) (arg1.view.loc (c : Thread nD τ))) (f2 : Buf (Elt F) (arg2.view.loc (c : Thread nD τ)))
    (f4 : Buf (Elt F) (arg4.view.loc (c : Thread nD τ))) (f7 : Buf (Elt F) (arg7.view.loc (c : Thread nD τ)))
    (f8 : Buf (Elt F) (arg8.view.loc (c : Thread nD τ))) :
    LoopInvTy_k0_t1 (F := F) Unit ℕ (UR sig nD τ) ℕ Variants.none c none Set.univ i arg1 harg1 arg2 harg2 arg3 harg3 arg4 harg4 arg5 harg5 arg6 harg6
      arg7 harg7 arg8 harg8 k0_mxu1 v57 v66 Mxu.init where
  inv k acc := iprop(⌜acc = loopUnits (arg1.view.read (Elt F) f1) ![arg2.view.read (Elt F) f2, arg4.view.read (Elt F) f4] (arg7.view.read (Elt F) f7) arg8.view Mxu.init f8 k⌝
    ∗ (arg1.view.loc (c : Thread nD τ) ↦{fullShare} f1) ∗ (arg2.view.loc (c : Thread nD τ) ↦{fullShare} f2)
    ∗ (arg4.view.loc (c : Thread nD τ) ↦{fullShare} f4) ∗ (arg7.view.loc (c : Thread nD τ) ↦{fullShare} f7)
    ∗ (arg8.view.loc (c : Thread nD τ) ↦{fullShare}
        loopBuf (arg1.view.read (Elt F) f1) ![arg2.view.read (Elt F) f2, arg4.view.read (Elt F) f4] (arg7.view.read (Elt F) f7) arg8.view Mxu.init f8 k))
  step k acc := by
    rw [loopUnits_eq, loopBuf_eq]
    iintro ⟨%hacc, H1, H2, H4, H7, H8⟩
    subst hacc
    iapply (wp_wand_r Idealize.ShloMosaic.frame (wpE (defs₀ (F := F)) Variants.none (c : Thread nD τ) none) Set.univ)
    isplitl [H1 H2 H4 H7 H8]
    · iapply (trip (F := F) c i arg1 harg1 arg2 harg2 arg3 harg3 arg4 harg4 arg5 harg5 arg6 harg6 arg7 harg7 arg8 harg8 k0_mxu1 v57 v66 k _
        (reg_loopAt _ _ _ _ _ _ (fun _ _ => rfl) _) f1 f2 f4 f7 _)
      iframe H1 H2 H4 H7
      iexact H8
    · iintro %s' ⟨%hs, H1, H2, H4, H7, H8⟩
      rw [loopUnits_eq, loopBuf_eq, loopAt_fst, loopAt_snd]
      isplitr
      · ipureintro; exact hs
      · iframe H1 H2 H4 H7
        iexact H8

end Cert.Proof.KI

end
-- ==== Proof.Body.lean ====
module

public import proofs.«01_k».proof.Proof.Loop

/-! The kernel's body at one grid point: what it leaves in the output block. -/

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The stores of the decoded scales, last first: each matrix's four groups of 128 columns. -/
def scalePieces (d0 d1 : Vec F S512x224 .i16) : List (View.Piece (Elt F) S2x4x224x128 .f32) :=
  [⟨Rect.unit (s := S2x4x224x128) ![1, 3, 0, 0] S1x1x224x128.size inb_S2x4x224x128_S1x1x224x128_1_3_0_0, k0_pay274 (k0_pay269 d1)⟩,
    ⟨Rect.unit (s := S2x4x224x128) ![1, 2, 0, 0] S1x1x224x128.size inb_S2x4x224x128_S1x1x224x128_1_2_0_0, k0_pay273 (k0_pay272 d1)⟩,
    ⟨Rect.unit (s := S2x4x224x128) ![1, 1, 0, 0] S1x1x224x128.size inb_S2x4x224x128_S1x1x224x128_1_1_0_0, k0_pay271 d1⟩,
    ⟨Rect.unit (s := S2x4x224x128) ![1, 0, 0, 0] S1x1x224x128.size inb_S2x4x224x128_S1x1x224x128_1_0_0_0, k0_pay270 d1⟩,
    ⟨Rect.unit (s := S2x4x224x128) ![0, 3, 0, 0] S1x1x224x128.size inb_S2x4x224x128_S1x1x224x128_0_3_0_0, k0_pay268 (k0_pay267 d0)⟩,
    ⟨Rect.unit (s := S2x4x224x128) ![0, 2, 0, 0] S1x1x224x128.size inb_S2x4x224x128_S1x1x224x128_0_2_0_0, k0_pay266 d0⟩,
    ⟨Rect.unit (s := S2x4x224x128) ![0, 1, 0, 0] S1x1x224x128.size inb_S2x4x224x128_S1x1x224x128_0_1_0_0, k0_pay265 d0⟩,
    ⟨Rect.unit (s := S2x4x224x128) ![0, 0, 0, 0] S1x1x224x128.size inb_S2x4x224x128_S1x1x224x128_0_0_0_0, k0_pay264 d0⟩]

/-- They fill the buffer. -/
theorem scale_cover (d0 d1 : Vec F S512x224 .i16) (y : S2x4x224x128.Idx) : ∃ pc ∈ scalePieces d0 d1, y ∈ pc.1.set :=
  View.cover_of_tiled (scalePieces d0 d1) S1x1x224x128.size (by rfl) y

/-- The decoded scales of a block's two matrices. -/
def scaleBuf (d0 d1 : Vec F S512x224 .i16) : Vec F S2x4x224x128 .f32 := View.canon (scalePieces d0 d1)

/-- The whole block of words. -/
abbrev rWords : Rect S512x224 := Rect.unit (s := S512x224) ![0, 0] S512x224.size inb_S512x224_S512x224_0_0

/-- The matrix units after the last chunk. -/
def lastState (x1 : Vec F S16x7168 .bf16) (x2 : Vec F S512x7168 .i8) (x3 : Vec F S512x224 .i16) (x4 : Vec F S512x7168 .i8) (x5 : Vec F S512x224 .i16) : Mxu F :=
  stateAt x1 ![x2, x4] (scaleBuf (View.ld x3 rWords) (View.ld x5 rWords)) Mxu.init 28

/-- The two stores into the output block, last first: the second half of the block's columns, then the first. -/
def outPieces (g0 u0 g1 u1 : FVec F S16x256 .f32) : List (View.Piece (Elt F) S16x512 .bf16) :=
  [⟨Rect.unit (s := S16x512) ![0, 256] S16x256.size inb_S16x512_S16x256_0_256, k0_pay1 g1 u1⟩,
   ⟨Rect.unit (s := S16x512) ![0, 0] S16x256.size inb_S16x512_S16x256_0_0, k0_pay277 g0 u0⟩]

/-- They fill the block. -/
theorem out_cover (g0 u0 g1 u1 : FVec F S16x256 .f32) (y : S16x512.Idx) : ∃ pc ∈ outPieces g0 u0 g1 u1, y ∈ pc.1.set :=
  View.cover_of_tiled (outPieces g0 u0 g1 u1) S16x256.size (by rfl) y

/-- The output block of the four accumulators. -/
def outOf (g0 u0 g1 u1 : FVec F S16x256 .f32) : Vec F S16x512 .bf16 := View.canon (outPieces g0 u0 g1 u1)

/-- Equal products make equal outputs. -/
theorem outOf_congr {g0 u0 g1 u1 g0' u0' g1' u1' : FVec F S16x256 .f32} (h1 : g0 = g0') (h2 : u0 = u0') (h3 : g1 = g1') (h4 : u1 = u1') :
    outOf g0 u0 g1 u1 = outOf g0' u0' g1' u1' := by rw [h1, h2, h3, h4]

/-- The output block of matrix units that are done. -/
def outUnits (s : Mxu F) : Vec F S16x512 .bf16 :=
  outOf (s.read 0 0 fits_0_16) (s.read 1 0 fits_0_16) (s.read 0 4 fits_4_16) (s.read 1 4 fits_4_16)

/-- The output block of the inputs. -/
def outBlock (x1 : Vec F S16x7168 .bf16) (x2 : Vec F S512x7168 .i8) (x3 : Vec F S512x224 .i16) (x4 : Vec F S512x7168 .i8) (x5 : Vec F S512x224 .i16) : Vec F S16x512 .bf16 := outUnits (lastState x1 x2 x3 x4 x5)

/-- The first chunk's two stores leave it in slot 0. -/
theorem holds_first (v : View sig .tc .vmem S2x2x256x512 .i8) (f : v.ty.Contents (Elt F)) (Q : Fin 2 → Vec F S512x7168 .i8)
    (q0 q1 : Vec F S512x256 .i8) (h0 : q0 = View.ld (Q 0) (Rect.unit (s := S512x7168) ![0, 0] S512x256.size inb_S512x7168_S512x256_0_0))
    (h1 : q1 = View.ld (Q 1) (Rect.unit (s := S512x7168) ![0, 0] S512x256.size inb_S512x7168_S512x256_0_0)) :
    Holds (v.read (Elt F) (v.writes (Elt F) f
      [⟨Rect.unit (s := S2x2x256x512) ![0, 1, 0, 0] S1x1x256x512.size inb_S2x2x256x512_S1x1x256x512_0_1_0_0, k0_pay276 q1⟩,
       ⟨Rect.unit (s := S2x2x256x512) ![0, 0, 0, 0] S1x1x256x512.size inb_S2x2x256x512_S1x1x256x512_0_0_0_0, k0_pay275 q0⟩])) Q 0 0 := by
  intro m a b
  subst h0 h1
  have hx : ∀ (m' : Fin 2) (x : Fin 4), ((ix4 (0 : Fin 2) m' a b : S2x2x256x512.Idx) x).val
      = (![0, m'.val, 0, 0] : Fin 4 → ℕ) x + ((ix4 (0 : Fin 1) (0 : Fin 1) a b : S1x1x256x512.Idx) x).val := fun m' x => by
    match x with
    | ⟨0, _⟩ => rfl
    | ⟨1, _⟩ => rfl
    | ⟨2, _⟩ => exact (Nat.zero_add _).symm
    | ⟨3, _⟩ => exact (Nat.zero_add _).symm
  have hl : ∀ Q : Vec F S512x7168 .i8, View.ld Q (Rect.unit (s := S512x7168) ![0, 0] S512x256.size inb_S512x7168_S512x256_0_0) (ix2 b a)
      = Q (ix2 b (⟨256 * ch 0 + a.val, by have := ch_lt 0; omega⟩ : Fin 7168)) := fun Q =>
    congrArg Q (funext fun x => Fin.ext (by
      match x with
      | ⟨0, _⟩ => show 0 + 1 * b.val = b.val; omega
      | ⟨1, _⟩ => show 0 + 1 * a.val = 256 * min 0 27 + a.val; omega))
  match m with
  | 1 =>
    refine (View.read_writes_cons_unit_of_mem v f (slot_inb 0 1) _ _ _ (ix4 (0 : Fin 1) (0 : Fin 1) a b) rfl (hx 1)).trans ?_
    exact (transposed_apply _ a b).trans (hl _)
  | 0 =>
    rw [View.read_writes_cons_unit_of_not_mem v f _ _ _ _ rfl (1 : Fin 4) (Or.inl (by show (0:ℕ) < 1; omega))]
    refine (View.read_writes_cons_unit_of_mem v f (slot_inb 0 0) _ _ _ (ix4 (0 : Fin 1) (0 : Fin 1) a b) rfl (hx 0)).trans ?_
    exact (transposed_apply _ a b).trans (hl _)

/-- After the loop the units are those after the last chunk. -/
theorem units_last (X : Vec F S16x7168 .bf16) (Q : Fin 2 → Vec F S512x7168 .i8) (S : Vec F S2x4x224x128 .f32)
    (v : View sig .tc .vmem S2x2x256x512 .i8) (s : Mxu F) (f : v.ty.Contents (Elt F)) (h : Holds (v.read (Elt F) f) Q 0 0) :
    loopUnits X Q S v s f (Scf.trips k0_t1_loop.lb k0_t1_loop.ub k0_t1_loop.st) = stateAt X Q S s 28 := by
  rw [loopUnits_eq]
  exact (loopAt_eq X Q S v s f h 7 (le_refl _)).1

set_option maxHeartbeats 8000000 in
set_option maxRecDepth 65536 in
/-- The body on its buffers' contents: the inputs stay, the output block is `outBlock` of them, the scratch buffers end at anything. -/
theorem body_raw (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ))) :
   (iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8)) : sProp 𝕄)
   ⊢ wp frame (wpE (defs₀ (F := F)) Variants.none (c : Thread nD τ) none) Set.univ
      (cc0_q8_gated (F := F) i arg1 harg1 arg2 harg2 arg3 harg3 arg4 harg4 arg5 harg5 arg6 harg6 arg7 harg7 arg8 harg8)
      (fun _ => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5)
        ∗ (∃ g, ⌜arg6.view.read (Elt F) g = outBlock (arg1.view.read (Elt F) f1) (arg2.view.read (Elt F) f2) (arg3.view.read (Elt F) f3) (arg4.view.read (Elt F) f4) (arg5.view.read (Elt F) f5)⌝ ∗ (arg6.view.loc (c : Thread nD τ) ↦{fullShare} g)) ∗ (∃ g, (arg7.view.loc (c : Thread nD τ) ↦{fullShare} g)) ∗ (∃ g, (arg8.view.loc (c : Thread nD τ) ↦{fullShare} g)))) := by
  simp only [cc0_q8_gated_eq_skeleton]; unfold cc0_q8_gated_skel
  iintro ⟨H1, H2, H3, H4, H5, H6, H7, H8⟩
  sl_exec_parts (disch := (mxu_pushok_peel <;> exact Mxu.pushOk_of_none _ _ _ _ (fun _ _ => rfl)))
  sl_exec
  sl_step
  iframe H1 H2 H3 H4 H5
  isplitl [H6]
  · iexists _; isplitr
    swap; · iexact H6
    ipureintro
    have hS : ∀ g, arg7.view.read (Elt F) (arg7.view.writes (Elt F) g (body_raw.sl.H7_8 c arg3 arg5 f3 f5))
        = scaleBuf (View.ld (arg3.view.read (Elt F) f3) rWords) (View.ld (arg5.view.read (Elt F) f5) rWords) := fun g =>
      View.read_writes_eq_canon _ _ _ (scale_cover _ _)
    refine (View.read_writes_eq_canon _ _ _ (out_cover _ _ _ _)).trans ?_
    have hU := units_last (arg1.view.read (Elt F) f1) ![arg2.view.read (Elt F) f2, arg4.view.read (Elt F) f4]
      (scaleBuf (View.ld (arg3.view.read (Elt F) f3) rWords) (View.ld (arg5.view.read (Elt F) f5) rWords)) arg8.view Mxu.init _
      (holds_first arg8.view f8 ![arg2.view.read (Elt F) f2, arg4.view.read (Elt F) f4] _ _ rfl rfl)
    unfold outBlock outUnits lastState
    rw [← hU, ← hS arg7.view.junk]
    refine outOf_congr ?_ ?_ ?_ ?_
    · rfl
    · unfold body_raw.sl.v89_r0 body_raw.sl.k0_mxu36
      rw [Mxu.read_pop_ne]
      · rfl
      all_goals decide
    · unfold body_raw.sl.v95_r0 body_raw.sl.k0_mxu37 body_raw.sl.k0_mxu36
      rw [Mxu.read_pop_ne, Mxu.read_pop_ne]
      · rfl
      all_goals decide
    · unfold body_raw.sl.v96_r0 body_raw.sl.k0_mxu38 body_raw.sl.k0_mxu37 body_raw.sl.k0_mxu36
      rw [Mxu.read_pop_ne, Mxu.read_pop_ne, Mxu.read_pop_ne]
      · rfl
      all_goals decide
  isplitl [H7]
  · iexists _; iexact H7
  iexists _; iexact H8

/-- The body on whole buffers: the inputs stay, the output block is `outBlock` of them, the scratch buffers end at anything. -/
theorem sound_kernel (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole)
   (x1 : Vec F S16x7168 .bf16) (x2 : Vec F S512x7168 .i8) (x3 : Vec F S512x224 .i16) (x4 : Vec F S512x7168 .i8) (x5 : Vec F S512x224 .i16) (K : PUnit → sProp 𝕄) :
   iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outBlock x1 x2 x3 x4 x5) ∗ (∃ d, owns (c : Thread nD τ) arg7 fullShare d) ∗ (∃ d, owns (c : Thread nD τ) arg8 fullShare d)) -∗ K ⟨⟩))
   ⊢ wp frame (wpE (defs₀ (F := F)) Variants.none (c : Thread nD τ) none) Set.univ
      (cc0_q8_gated (F := F) i arg1 harg1 arg2 harg2 arg3 harg3 arg4 harg4 arg5 harg5 arg6 harg6 arg7 harg7 arg8 harg8) K := by
  unfold owns
  simp only [harg1.set_eq_univ, harg2.set_eq_univ, harg3.set_eq_univ, harg4.set_eq_univ, harg5.set_eq_univ, harg6.set_eq_univ, harg7.set_eq_univ, harg8.set_eq_univ]
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  iapply (wp_wand_r Idealize.ShloMosaic.frame (wpE (defs₀ (F := F)) Variants.none (c : Thread nD τ) none) Set.univ)
  isplitl [H1 H2 H3 H4 H5 H6 H7 H8]
  · iapply (body_raw (F := F) c i arg1 harg1 arg2 harg2 arg3 harg3 arg4 harg4 arg5 harg5 arg6 harg6 arg7 harg7 arg8 harg8 f1 f2 f3 f4 f5 f6 f7 f8)
    iframe H1 H2 H3 H4 H5 H6 H7
    iexact H8
  iintro %_ ⟨H1, H2, H3, H4, H5, ⟨%g, %hg, H6⟩, ⟨%g7, H7⟩, ⟨%g8, H8⟩⟩
  iapply Hk
  isplitl [H1]; · (iexists f1; isplitr; · (ipureintro; rfl)
                   iexact H1)
  isplitl [H2]; · (iexists f2; isplitr; · (ipureintro; rfl)
                   iexact H2)
  isplitl [H3]; · (iexists f3; isplitr; · (ipureintro; rfl)
                   iexact H3)
  isplitl [H4]; · (iexists f4; isplitr; · (ipureintro; rfl)
                   iexact H4)
  isplitl [H5]; · (iexists f5; isplitr; · (ipureintro; rfl)
                   iexact H5)
  isplitl [H6]; · (iexists g; isplitr; · (ipureintro; exact hg)
                   iexact H6)
  isplitl [H7]
  · iexists _; iexists _; isplitr
    swap; · iexact H7
    ipureintro; rfl
  iexists _; iexists _; isplitr
  swap; · iexact H8
  ipureintro; rfl

end Cert.Proof.KI

end
-- ==== Proof.Run.lean ====
module

public import proofs.«01_k».proof.Proof.Body
public import proofs.«01_k».proof.Proof.Gen.KernelIdeal.Frame
public import Idealize.ShloMosaic.Lib.Claim

/-! The kernel's run: the grid's 40 points, each leaving its output block, and the frame. -/

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents around the body at each point: the inputs' blocks stay, the output's is `outBlock` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- The body leaves window 0, an input, as its block. -/
theorem after0_0 (c : Dev nD) (t : Fin cfg0.N) : (dats m 0 c).after 0 t = iblk m c 0 t := by dsimp only [dats]
/-- The body leaves window 1, an input, as its block. -/
theorem after0_1 (c : Dev nD) (t : Fin cfg0.N) : (dats m 0 c).after 1 t = iblk m c 1 t := by dsimp only [dats]
/-- The body leaves window 2, an input, as its block. -/
theorem after0_2 (c : Dev nD) (t : Fin cfg0.N) : (dats m 0 c).after 2 t = iblk m c 2 t := by dsimp only [dats]
/-- The body leaves window 3, an input, as its block. -/
theorem after0_3 (c : Dev nD) (t : Fin cfg0.N) : (dats m 0 c).after 3 t = iblk m c 3 t := by dsimp only [dats]
/-- The body leaves window 4, an input, as its block. -/
theorem after0_4 (c : Dev nD) (t : Fin cfg0.N) : (dats m 0 c).after 4 t = iblk m c 4 t := by dsimp only [dats]
/-- The output's block at a point. -/
theorem after0_5 (c : Dev nD) (t : Fin cfg0.N) : (dats m 0 c).after 5 t = outBlock (iblk m c 0 t) (iblk m c 1 t) (iblk m c 2 t) (iblk m c 3 t) (iblk m c 4 t) := by dsimp only [dats]
/-- The body finds its block in window 0. -/
theorem before0_0 (c : Dev nD) (t : Fin cfg0.N) (d) : (dats m 0 c).before 0 t d = iblk m c 0 t :=
  before0_0_of m (dats m 0 c) (A_eq m c 0) (after0_0 m c) t d
/-- The body finds its block in window 1. -/
theorem before0_1 (c : Dev nD) (t : Fin cfg0.N) (d) : (dats m 0 c).before 1 t d = iblk m c 1 t :=
  before0_1_of m (dats m 0 c) (A_eq m c 1) (after0_1 m c) t d
/-- The body finds its block in window 2. -/
theorem before0_2 (c : Dev nD) (t : Fin cfg0.N) (d) : (dats m 0 c).before 2 t d = iblk m c 2 t :=
  before0_2_of m (dats m 0 c) (A_eq m c 2) (after0_2 m c) t d
/-- The body finds its block in window 3. -/
theorem before0_3 (c : Dev nD) (t : Fin cfg0.N) (d) : (dats m 0 c).before 3 t d = iblk m c 3 t :=
  before0_3_of m (dats m 0 c) (A_eq m c 3) (after0_3 m c) t d
/-- The body finds its block in window 4. -/
theorem before0_4 (c : Dev nD) (t : Fin cfg0.N) (d) : (dats m 0 c).before 4 t d = iblk m c 4 t :=
  before0_4_of m (dats m 0 c) (A_eq m c 4) (after0_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The two scratch buffers are among what the region keeps. -/
theorem keeps_eq (c : Dev nD) : (Pipeline.ΦA (Val := Elt F) (U := UR sig nD τ) spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, keeps_eq]
  iintro ⟨⟨⟨⟨%g7, H7⟩, ⟨%g8, H8⟩⟩, Hp⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]
  · unfold owns
    simp only [(Memref.isWhole_whole (sig := sig) cc0_scratch0).set_eq_univ]
    iexists _; iexists g7; isplitr; · (ipureintro; rfl)
    iexact H7
  isplitl [H8]
  · unfold owns
    simp only [(Memref.isWhole_whole (sig := sig) cc0_scratch1).set_eq_univ]
    iexists _; iexists g8; isplitr; · (ipureintro; rfl)
    iexact H8
  iintro ⟨H0, H1, H2, H3, H4, H5, H7, H8⟩
  unfold owns
  simp only [(Memref.isWhole_whole (sig := sig) cc0_scratch0).set_eq_univ, (Memref.isWhole_whole (sig := sig) cc0_scratch1).set_eq_univ]
  icases H7 with ⟨%_, %e7, -, H7⟩
  icases H8 with ⟨%_, %e8, -, H8⟩
  isplitl [H7 H8 Hp]
  · isplitr [Hp]
    · isplitl [H7]
      · iexists e7; iexact H7
      · iexists e8; iexact H8
    · iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends at what the grid writes, the host lines after it run, and every semaphore ends at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.KI

end
-- ==== Proof.Bits.Tile.lean ====
module

public import proofs.«01_k».proof.Proof.Gen.Kernel
public import Idealize.ShloMosaic.Lib.Tactic
public import Idealize.ShloMosaic.Lib.Mxu.PassChain

/-! What one trip of the kernel's loop computes, written as functions of the contents it reads: the 256×256 tiles of
dequantised weights, the four steps a chunk of 256 columns takes on the matrix units, and the pieces it stores into the
buffer of transposed codes. -/

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI

variable {F : FTy → Type} [FloatOps F]

/-- What a load of the box `r` reads of the contents `X`. -/
abbrev ldAt {s : Shape} {α : Type} (X : s.Idx → α) (r : Rect s) : r.shape.Idx → α := fun x => X (r.toLoadRect.idx x)

/-- One 32×128 group of weights: the codes times the scales of their quantisation block, one scale per column. -/
def cell (q : Vec F S1x1x32x128 .i8) (d : Vec F S1x1x1x128 .f32) : FVec F S32x128 .bf16 :=
  truncf .bf16 (mulf (extf .f32 (sitofp .bf16 (shapeCast S32x128 q shapeCasts_S1x1x32x128_S32x128 : IVec S32x128 8)) bitsLt_bf16_f32)
    (broadcastTo S32x128 (shapeCast S1x128 d shapeCasts_S1x1x1x128_S1x128) broadcasts_S1x128_S32x128)) bitsLt_bf16_f32

/-- Two groups side by side. -/
def rowOf (q : Fin 2 → Vec F S1x1x32x128 .i8) (d : Fin 2 → Vec F S1x1x1x128 .f32) : FVec F S32x256 .bf16 :=
  concatenate S32x256 1 [⟨S32x128, cell (q 0) (d 0)⟩, ⟨S32x128, cell (q 1) (d 1)⟩] concatenates_S32x128_S32x128_S32x256_d1

/-- Eight such rows stacked: a 256×256 tile of weights. -/
def tileOf (q : Fin 8 → Fin 2 → Vec F S1x1x32x128 .i8) (d : Fin 8 → Fin 2 → Vec F S1x1x1x128 .f32) : FVec F S256x256 .bf16 :=
  concatenate S256x256 0 [⟨S32x256, rowOf (q 0) (d 0)⟩, ⟨S32x256, rowOf (q 1) (d 1)⟩, ⟨S32x256, rowOf (q 2) (d 2)⟩,
    ⟨S32x256, rowOf (q 3) (d 3)⟩, ⟨S32x256, rowOf (q 4) (d 4)⟩, ⟨S32x256, rowOf (q 5) (d 5)⟩, ⟨S32x256, rowOf (q 6) (d 6)⟩,
    ⟨S32x256, rowOf (q 7) (d 7)⟩] concatenates_S32x256_S32x256_S32x256_S32x256_S32x256_S32x256_S32x256_S32x256_S256x256_d0

/-- Where the program reads the scales of matrix `m`, columns `256·half + 128·j …` of the block. -/
def scOff (half m j : Fin 2) (k : Fin k0_t1_loop.trips) (c kb : BitVec 32) : Fin S2x4x224x128.rank → ℕ :=
  match half, m, j with
  | 0, 0, 0 => k0_off3 k c kb
  | 0, 0, 1 => k0_off4 k c kb
  | 0, 1, 0 => k0_off5 k c kb
  | 0, 1, 1 => k0_off6 k c kb
  | 1, 0, 0 => k0_off7 k c kb
  | 1, 0, 1 => k0_off8 k c kb
  | 1, 1, 0 => k0_off9 k c kb
  | 1, 1, 1 => k0_off10 k c kb

/-- The place in closed form: matrix, group of 128 columns, quantisation block, first lane. -/
theorem scOff_eq (half m j : Fin 2) (k : Fin k0_t1_loop.trips) (c : Fin 4) (kb : Fin 8) :
    scOff half m j k (BitVec.ofNat 32 c.val) (BitVec.ofNat 32 kb.val)
      = ![m.val, 2 * half.val + j.val, 32 * k.val + 8 * c.val + kb.val, 0] := by
  match half, m, j with
  | 0, 0, 0 => exact k0_off3_eq k c kb
  | 0, 0, 1 => exact k0_off4_eq k c kb
  | 0, 1, 0 => exact k0_off5_eq k c kb
  | 0, 1, 1 => exact k0_off6_eq k c kb
  | 1, 0, 0 => exact k0_off7_eq k c kb
  | 1, 0, 1 => exact k0_off8_eq k c kb
  | 1, 1, 0 => exact k0_off9_eq k c kb
  | 1, 1, 1 => exact k0_off10_eq k c kb

/-- The loop makes seven trips. -/
theorem trips_lt (k : Fin k0_t1_loop.trips) : k.val < 7 := k.isLt

/-- The scales a trip reads lie within their buffer. -/
theorem scOff_inb (half m j : Fin 2) (k : Fin k0_t1_loop.trips) (c : Fin 4) (kb : Fin 8) :
    ∀ a, scOff half m j k (BitVec.ofNat 32 c.val) (BitVec.ofNat 32 kb.val) a + S1x1x1x128.size a ≤ S2x4x224x128.size a := by
  rw [scOff_eq]
  have hk := trips_lt k
  intro a
  match a with
  | 0 => change m.val + 1 ≤ 2; omega
  | 1 => change 2 * half.val + j.val + 1 ≤ 4; omega
  | 2 => change 32 * k.val + 8 * c.val + kb.val + 1 ≤ 224; omega
  | 3 => change 0 + 128 ≤ 128; omega

/-- The codes a tile reads lie within the buffer of transposed codes. -/
theorem codeOff_inb (slot half m : Fin 2) (kb : Fin 8) (j : Fin 2) :
    ∀ a, (![slot.val, m.val, 32 * kb.val, 256 * half.val + 128 * j.val] : Fin S2x2x256x512.rank → ℕ) a + S1x1x32x128.size a ≤ S2x2x256x512.size a := by
  intro a
  match a with
  | 0 => change slot.val + 1 ≤ 2; omega
  | 1 => change m.val + 1 ≤ 2; omega
  | 2 => change 32 * kb.val + 32 ≤ 256; omega
  | 3 => change 256 * half.val + 128 * j.val + 128 ≤ 512; omega

/-- The 128 scales of quantisation block `32k + 8c + kb`, in the group of columns `256·half + 128·j …` of matrix `m`. -/
def scaleAt (S : Vec F S2x4x224x128 .f32) (k : Fin k0_t1_loop.trips) (c : Fin 4) (half m : Fin 2) (kb : Fin 8) (j : Fin 2) :
    Vec F S1x1x1x128 .f32 :=
  ldAt S (Rect.unit (s := S2x4x224x128) (scOff half m j k (BitVec.ofNat 32 c.val) (BitVec.ofNat 32 kb.val)) S1x1x1x128.size (scOff_inb half m j k c kb))

/-- The 32×128 codes of group `kb`, `j` in slot `slot` of the buffer of transposed codes. -/
def codeAt (Y : Vec F S2x2x256x512 .i8) (slot half m : Fin 2) (kb : Fin 8) (j : Fin 2) : Vec F S1x1x32x128 .i8 :=
  ldAt Y (Rect.unit (s := S2x2x256x512) ![slot.val, m.val, 32 * kb.val, 256 * half.val + 128 * j.val] S1x1x32x128.size (codeOff_inb slot half m kb j))

/-- The tile of matrix `m`, half `half` of the block's columns, of chunk `c` of trip `k`. -/
def tileAt (Y : Vec F S2x2x256x512 .i8) (S : Vec F S2x4x224x128 .f32) (k : Fin k0_t1_loop.trips) (c : Fin 4) (slot half m : Fin 2) :
    FVec F S256x256 .bf16 :=
  tileOf (codeAt Y slot half m) (scaleAt S k c half m)

/-- The 16×256 activations of chunk `c` of trip `k`. -/
def xAt (X : Vec F S16x7168 .bf16) (k : Fin k0_t1_loop.trips) (c : Fin 4) : FVec F S16x256 .bf16 :=
  shapeCast S16x256 (ldAt X (Rect.unit (s := S16x7168) (k0_off2 k (BitVec.ofNat 32 c.val)) S16x256.size (k0_off2_inb k c))) shapeCasts_S16x256_S16x256

/-- What a chunk does to the matrix units: each of the four tiles is pushed and the activations accumulated against it, the
    halves at addresses 0 and 4, the matrices on units 0 and 1. -/
def chunkStep (x : FVec F S16x256 .bf16) (t : Fin 2 → Fin 2 → FVec F S256x256 .bf16) (s : Mxu F) : Mxu F :=
  Mxu.pushAcc 1 1 false 4 fits_4_16 (Mxu.pushAcc 0 1 false 4 fits_4_16
    (Mxu.pushAcc 1 0 false 0 fits_0_16 (Mxu.pushAcc 0 0 false 0 fits_0_16 s (t 0 0) x) (t 0 1) x) (t 1 0) x) (t 1 1) x

/-- A 256-column chunk of a block's codes, transposed. -/
def transposed (Q : Vec F S512x256 .i8) : Vec F S1x1x256x512 .i8 :=
  shapeCast S1x1x256x512 (transpose S256x512 [1, 0] Q transposes_S512x256_p1_0_S256x512) shapeCasts_S256x512_S1x1x256x512

/-- The box of matrix `m` in slot `slot`. -/
theorem slot_inb (slot m : Fin 2) :
    ∀ a, (![slot.val, m.val, 0, 0] : Fin S2x2x256x512.rank → ℕ) a + S1x1x256x512.size a ≤ S2x2x256x512.size a := by
  intro a
  match a with
  | 0 => change slot.val + 1 ≤ 2; omega
  | 1 => change m.val + 1 ≤ 2; omega
  | 2 => change 0 + 256 ≤ 256; omega
  | 3 => change 0 + 512 ≤ 512; omega

/-- The codes chunk `c` of trip `k` transposes for the chunk after it. -/
def nextCodes (Q : Vec F S512x7168 .i8) (k : Fin k0_t1_loop.trips) (c : Fin 4) : Vec F S512x256 .i8 :=
  ldAt Q (Rect.unit (s := S512x7168) (k0_off1 k (BitVec.ofNat 32 c.val)) S512x256.size (k0_off1_inb k c))

/-- The two stores that put the next chunk's transposed codes into slot `slot`. -/
def putCodes (Qg Qu : Vec F S512x7168 .i8) (k : Fin k0_t1_loop.trips) (c : Fin 4) (slot : Fin 2)
    (L : List (View.Piece (Elt F) S2x2x256x512 .i8)) : List (View.Piece (Elt F) S2x2x256x512 .i8) :=
  ⟨Rect.unit (s := S2x2x256x512) ![slot.val, (1 : Fin 2).val, 0, 0] S1x1x256x512.size (slot_inb slot 1), transposed (nextCodes Qu k c)⟩
    :: ⟨Rect.unit (s := S2x2x256x512) ![slot.val, (0 : Fin 2).val, 0, 0] S1x1x256x512.size (slot_inb slot 0), transposed (nextCodes Qg k c)⟩ :: L

/-- The stores of a trip before its chunk `n` is multiplied, last first. -/
def tripPieces (Qg Qu : Vec F S512x7168 .i8) (k : Fin k0_t1_loop.trips) : Fin 5 → List (View.Piece (Elt F) S2x2x256x512 .i8)
  | 0 => []
  | 1 => putCodes Qg Qu k 0 1 []
  | 2 => putCodes Qg Qu k 1 0 (putCodes Qg Qu k 0 1 [])
  | 3 => putCodes Qg Qu k 2 1 (putCodes Qg Qu k 1 0 (putCodes Qg Qu k 0 1 []))
  | 4 => putCodes Qg Qu k 3 0 (putCodes Qg Qu k 2 1 (putCodes Qg Qu k 1 0 (putCodes Qg Qu k 0 1 [])))

end Cert.Proof.K

end
-- ==== Proof.Bits.Trip.lean ====
module

public import proofs.«01_k».proof.Proof.Gen.Kernel
public import proofs.«01_k».proof.Proof.Gen.Kernel.Skeleton
public import proofs.«01_k».proof.Proof.Gen.Kernel.Loops
public import Idealize.ShloMosaic.Lib.Tactic
public import Idealize.ShloMosaic.Lib.Mxu.Walk
public import proofs.«01_k».proof.Proof.Bits.Tile

/-! One trip of the kernel's loop: four chunks of 256 columns each. -/

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A push and accumulation step is settled by the state, the tile and the activations. -/
theorem step_congr {q : Fin 2} {r : Fin 2} {A : ℕ} {h : Mxu.Fits A 16} {s s' : Mxu F} {t t' : FVec F S256x256 .bf16} {x x' : FVec F S16x256 .bf16}
    (hs : s = s') (ht : t = t') (hx : x = x') : (s.pushed q r false t).accLhs q r A x h = Mxu.pushAcc q r false A h s' t' x' := by
  subst hs; subst ht; subst hx; rfl

/-- A group of weights is settled by its codes and its scales. -/
theorem cell_congr {q q' : Vec F S1x1x32x128 .i8} {d d' : Vec F S1x1x1x128 .f32} (hq : q = q') (hd : d = d') :
    truncf .bf16 (mulf (extf .f32 (sitofp .bf16 (shapeCast S32x128 q shapeCasts_S1x1x32x128_S32x128 : IVec S32x128 8)) bitsLt_bf16_f32)
      (broadcastTo S32x128 (shapeCast S1x128 d shapeCasts_S1x1x1x128_S1x128) broadcasts_S1x128_S32x128)) bitsLt_bf16_f32
      = cell q' d' := by
  subst hq; subst hd; rfl

/-- A row is settled by its two groups. -/
theorem rowOf_congr {a b : FVec F S32x128 .bf16} {q : Fin 2 → Vec F S1x1x32x128 .i8} {d : Fin 2 → Vec F S1x1x1x128 .f32}
    (ha : a = cell (q 0) (d 0)) (hb : b = cell (q 1) (d 1)) :
    concatenate S32x256 1 [⟨S32x128, a⟩, ⟨S32x128, b⟩] concatenates_S32x128_S32x128_S32x256_d1 = rowOf q d := by
  subst ha; subst hb; rfl

/-- A tile is settled by its eight rows. -/
theorem tileOf_congr {a b c e f g h i : FVec F S32x256 .bf16} {q : Fin 8 → Fin 2 → Vec F S1x1x32x128 .i8}
    {d : Fin 8 → Fin 2 → Vec F S1x1x1x128 .f32} (ha : a = rowOf (q 0) (d 0)) (hb : b = rowOf (q 1) (d 1)) (hc : c = rowOf (q 2) (d 2))
    (he : e = rowOf (q 3) (d 3)) (hf : f = rowOf (q 4) (d 4)) (hg : g = rowOf (q 5) (d 5)) (hh : h = rowOf (q 6) (d 6))
    (hi : i = rowOf (q 7) (d 7)) :
    concatenate S256x256 0 [⟨S32x256, a⟩, ⟨S32x256, b⟩, ⟨S32x256, c⟩, ⟨S32x256, e⟩, ⟨S32x256, f⟩, ⟨S32x256, g⟩, ⟨S32x256, h⟩, ⟨S32x256, i⟩]
      concatenates_S32x256_S32x256_S32x256_S32x256_S32x256_S32x256_S32x256_S32x256_S256x256_d0 = tileOf q d := by
  subst ha; subst hb; subst hc; subst he; subst hf; subst hg; subst hh; subst hi; rfl

/-- What each chunk of a trip reads its codes from: chunk 0 what the buffer held, a later chunk what the trip has stored. -/
def codesSeen (v : View sig .tc .vmem S2x2x256x512 .i8) (f : v.ty.Contents (Elt F))
    (L : Fin 5 → List (View.Piece (Elt F) S2x2x256x512 .i8)) : Fin 4 → Vec F S2x2x256x512 .i8
  | 0 => v.read (Elt F) f
  | 1 => v.read (Elt F) (v.writes (Elt F) v.junk (L 2))
  | 2 => v.read (Elt F) (v.writes (Elt F) v.junk (L 3))
  | 3 => v.read (Elt F) (v.writes (Elt F) v.junk (L 4))

/-- What a trip does to the matrix units: its four chunks in turn, chunk `n` on the codes `Y n` in the buffer before it. -/
def tripStep (X : Vec F S16x7168 .bf16) (S : Vec F S2x4x224x128 .f32) (Y : Fin 4 → Vec F S2x2x256x512 .i8)
    (k : Fin k0_t1_loop.trips) (s : Mxu F) : Mxu F :=
  chunkStep (xAt X k 3) (tileAt (Y 3) S k 3 1) (chunkStep (xAt X k 2) (tileAt (Y 2) S k 2 0)
    (chunkStep (xAt X k 1) (tileAt (Y 1) S k 1 1) (chunkStep (xAt X k 0) (tileAt (Y 0) S k 0 0) s)))

set_option maxHeartbeats 4000000 in
set_option maxRecDepth 65536 in
/-- A trip, from empty staging registers: the units take the four chunks' steps, the buffer of transposed codes the trip's
    stores, and nothing else changes. -/
theorem trip (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole) (k0_mxu1 : Mxu F) (v57 : FVec F S224x512 .f32) (v66 : FVec F S224x128 .f32)
   (k : Fin k0_t1_loop.trips) (s : Mxu F) (hreg : ∀ q r, s.reg q r = none)
   (f1 : Buf (Elt F) (arg1.view.loc (c : Thread nD τ))) (f2 : Buf (Elt F) (arg2.view.loc (c : Thread nD τ)))
   (f4 : Buf (Elt F) (arg4.view.loc (c : Thread nD τ))) (f7 : Buf (Elt F) (arg7.view.loc (c : Thread nD τ)))
   (f8 : Buf (Elt F) (arg8.view.loc (c : Thread nD τ))) :
   (iprop((arg1.view.loc (c : Thread nD τ) ↦{fullShare} f1) ∗ (arg2.view.loc (c : Thread nD τ) ↦{fullShare} f2)
     ∗ (arg4.view.loc (c : Thread nD τ) ↦{fullShare} f4) ∗ (arg7.view.loc (c : Thread nD τ) ↦{fullShare} f7)
     ∗ (arg8.view.loc (c : Thread nD τ) ↦{fullShare} f8)) : sProp 𝕄)
   ⊢ wp frame (wpE (defs₀ (F := F)) Variants.none (c : Thread nD τ) none) Set.univ
      (k0_t1_body (F := F) i arg1 harg1 arg2 harg2 arg3 harg3 arg4 harg4 arg5 harg5 arg6 harg6 arg7 harg7 arg8 harg8 k0_mxu1 v57 v66 k s)
      (fun s' => iprop(⌜s' = tripStep (arg1.view.read (Elt F) f1) (arg7.view.read (Elt F) f7)
          (codesSeen arg8.view f8 (tripPieces (arg2.view.read (Elt F) f2) (arg4.view.read (Elt F) f4) k)) k s⌝
        ∗ (arg1.view.loc (c : Thread nD τ) ↦{fullShare} f1) ∗ (arg2.view.loc (c : Thread nD τ) ↦{fullShare} f2)
        ∗ (arg4.view.loc (c : Thread nD τ) ↦{fullShare} f4) ∗ (arg7.view.loc (c : Thread nD τ) ↦{fullShare} f7)
        ∗ (arg8.view.loc (c : Thread nD τ) ↦{fullShare} arg8.view.writes (Elt F) f8 (tripPieces (arg2.view.read (Elt F) f2) (arg4.view.read (Elt F) f4) k 4)))) := by
  unfold k0_t1_body
  iintro ⟨H1, H2, H4, H7, H8⟩
  sl_exec_parts (disch := (mxu_pushok_peel <;> exact Mxu.pushOk_of_none _ _ _ _ (hreg _ _)))
  sl_step
  isplitr
  · ipureintro
    unfold tripStep chunkStep
    refine step_congr (step_congr (step_congr (step_congr ?_ ?_ ?_) ?_ ?_) ?_ ?_) ?_ ?_
    refine step_congr (step_congr (step_congr (step_congr ?_ ?_ ?_) ?_ ?_) ?_ ?_) ?_ ?_
    refine step_congr (step_congr (step_congr (step_congr ?_ ?_ ?_) ?_ ?_) ?_ ?_) ?_ ?_
    refine step_congr (step_congr (step_congr (step_congr ?_ ?_ ?_) ?_ ?_) ?_ ?_) ?_ ?_
    all_goals first
      | (refine tileOf_congr ?_ ?_ ?_ ?_ ?_ ?_ ?_ ?_ <;> refine rowOf_congr ?_ ?_ <;> refine cell_congr ?_ ?_ <;> rfl)
      | rfl
  · iframe H1 H2 H4 H7
    iexact H8

end Cert.Proof.K

end
-- ==== Proof.Bits.Chunk.lean ====
module

public import proofs.«01_k».proof.Proof.Bits.Trip
public import Idealize.ShloMosaic.Lib.WritesUnit
public import Idealize.ShloMosaic.Lib.ValueLayout

/-! The matrix units before each of the 28 chunks, as a function of a block's contents alone: the codes a chunk reads are the
chunk's own columns of the two code matrices, whichever slot of the buffer they were transposed into. -/

@[expose] public section

noncomputable section

namespace Cert.Proof.K

open Cert.Kernel Cert.Kernel.Gen
open Idealize.ShloMosaic Idealize.ShloMosaic.TcCoe Idealize.ShloMosaic.Tactic Idealize.ShloMosaic.ValueIdx
open Idealize.SL Idealize.SL.RA Idealize.SL.BI

variable {F : FTy → Type} [FloatOps F]

/-- The chunk counted `n`, held at the last one. -/
def ch (n : ℕ) : ℕ := min n 27

/-- There are 28 chunks. -/
theorem ch_lt (n : ℕ) : ch n < 28 := by unfold ch; omega

/-- Within the 28 a chunk is counted as it is. -/
theorem ch_of_lt {n : ℕ} (h : n < 28) : ch n = n := by unfold ch; omega

/-- The codes of chunk `n`, group `kb`, `j`: the matrix's columns `256·n + 32·kb …`, rows `256·half + 128·j …`, transposed. -/
def codeOf (Q : Vec F S512x7168 .i8) (n : ℕ) (half : Fin 2) (kb : Fin 8) (j : Fin 2) : Vec F S1x1x32x128 .i8 :=
  fun i => Q (ix2 (⟨256 * half.val + 128 * j.val + (i 3).val, by have : (i 3).val < 128 := (i 3).isLt; omega⟩ : Fin 512)
    (⟨256 * ch n + 32 * kb.val + (i 2).val, by have : (i 2).val < 32 := (i 2).isLt; have := ch_lt n; omega⟩ : Fin 7168))

/-- The scales of chunk `n`, group `kb`, `j`. -/
def scaleOf (S : Vec F S2x4x224x128 .f32) (n : ℕ) (half m : Fin 2) (kb : Fin 8) (j : Fin 2) : Vec F S1x1x1x128 .f32 :=
  fun i => S (ix4 m (⟨2 * half.val + j.val, by omega⟩ : Fin 4) (⟨8 * ch n + kb.val, by have := ch_lt n; omega⟩ : Fin 224)
    (⟨(i 3).val, by have : (i 3).val < 128 := (i 3).isLt; omega⟩ : Fin 128))

/-- The activations of chunk `n`. -/
def xOf (X : Vec F S16x7168 .bf16) (n : ℕ) : FVec F S16x256 .bf16 :=
  fun i => X (ix2 (⟨(i 0).val, (i 0).isLt⟩ : Fin 16)
    (⟨256 * ch n + (i 1).val, by have : (i 1).val < 256 := (i 1).isLt; have := ch_lt n; omega⟩ : Fin 7168))

/-- The tiles of chunk `n`. -/
def tileW (Q : Fin 2 → Vec F S512x7168 .i8) (S : Vec F S2x4x224x128 .f32) (n : ℕ) (half m : Fin 2) : FVec F S256x256 .bf16 :=
  tileOf (codeOf (Q m) n half) (scaleOf S n half m)

/-- The matrix units before chunk `n`. -/
def stateAt (X : Vec F S16x7168 .bf16) (Q : Fin 2 → Vec F S512x7168 .i8) (S : Vec F S2x4x224x128 .f32) (s : Mxu F) : ℕ → Mxu F
  | 0 => s
  | n + 1 => chunkStep (xOf X n) (tileW Q S n) (stateAt X Q S s n)

/-- Slot `slot` of the buffer of transposed codes holds chunk `n`. -/
def Holds (Y : Vec F S2x2x256x512 .i8) (Q : Fin 2 → Vec F S512x7168 .i8) (slot : Fin 2) (n : ℕ) : Prop :=
  ∀ (m : Fin 2) (a : Fin 256) (b : Fin 512), Y (ix4 slot m a b) = Q m (ix2 b (⟨256 * ch n + a.val, by have := ch_lt n; omega⟩ : Fin 7168))

/-- The transposed codes read at an index. -/
theorem transposed_apply (Q : Vec F S512x256 .i8) (a : Fin 256) (b : Fin 512) :
    transposed (F := F) Q (ix4 (0 : Fin 1) (0 : Fin 1) a b) = Q (ix2 b a) := by
  unfold transposed
  refine (shapeCast_apply _ _ _ (ix2 a b) ?_).trans (transpose_ix2_apply Q _ a b)
  rw [Shape.rowMajor_val_two, Shape.rowMajor_val_four]
  simp

/-- The codes chunk `c` of trip `k` brings in are those of the chunk after it. -/
theorem nextCodes_apply (Q : Vec F S512x7168 .i8) (k : Fin k0_t1_loop.trips) (c : Fin 4) (b : Fin 512) (a : Fin 256) :
    nextCodes (F := F) Q k c (ix2 b a) = Q (ix2 b (⟨256 * ch (4 * k.val + c.val + 1) + a.val, by have := ch_lt (4 * k.val + c.val + 1); omega⟩ : Fin 7168)) := by
  unfold nextCodes ldAt
  refine congrArg Q (funext fun i => Fin.ext ?_)
  have h := k0_off1_eq k c
  match i with
  | ⟨0, _⟩ =>
    show k0_off1 k (BitVec.ofNat 32 c.val) 0 + 1 * b.val = b.val
    rw [h]; show 0 + 1 * b.val = b.val; omega
  | ⟨1, _⟩ =>
    show k0_off1 k (BitVec.ofNat 32 c.val) 1 + 1 * a.val = _
    rw [h]; show 256 * (min (4 * k.val + c.val + 1) 27) + 1 * a.val = 256 * min (4 * k.val + c.val + 1) 27 + a.val; omega

/-- After the two stores of the next chunk, their slot holds it. -/
theorem holds_putCodes (v : View sig .tc .vmem S2x2x256x512 .i8) (f : v.ty.Contents (Elt F)) (Q : Fin 2 → Vec F S512x7168 .i8)
    (k : Fin k0_t1_loop.trips) (c : Fin 4) (slot : Fin 2) (L : List (View.Piece (Elt F) S2x2x256x512 .i8)) :
    Holds (v.read (Elt F) (v.writes (Elt F) f (putCodes (Q 0) (Q 1) k c slot L))) Q slot (4 * k.val + c.val + 1) := by
  intro m a b
  have hx : ∀ (m' : Fin 2) (x : Fin 4), ((ix4 slot m' a b : S2x2x256x512.Idx) x).val
      = (![slot.val, m'.val, 0, 0] : Fin 4 → ℕ) x + ((ix4 (0 : Fin 1) (0 : Fin 1) a b : S1x1x256x512.Idx) x).val := fun m' x => by
    match x with
    | ⟨0, _⟩ => rfl
    | ⟨1, _⟩ => rfl
    | ⟨2, _⟩ => exact (Nat.zero_add _).symm
    | ⟨3, _⟩ => exact (Nat.zero_add _).symm
  unfold putCodes
  match m with
  | 1 =>
    refine (View.read_writes_cons_unit_of_mem v f (slot_inb slot 1) _ _ _ (ix4 (0 : Fin 1) (0 : Fin 1) a b) rfl (hx 1)).trans ?_
    exact (transposed_apply _ a b).trans (nextCodes_apply _ k c b a)
  | 0 =>
    rw [View.read_writes_cons_unit_of_not_mem v f _ _ _ _ rfl (1 : Fin 4) (Or.inl (by show (0:ℕ) < 1; omega))]
    refine (View.read_writes_cons_unit_of_mem v f (slot_inb slot 0) _ _ _ (ix4 (0 : Fin 1) (0 : Fin 1) a b) rfl (hx 0)).trans ?_
    exact (transposed_apply _ a b).trans (nextCodes_apply _ k c b a)

/-- The two stores leave the other slot as it was. -/
theorem holds_putCodes_ne (v : View sig .tc .vmem S2x2x256x512 .i8) (f : v.ty.Contents (Elt F)) (Q : Fin 2 → Vec F S512x7168 .i8)
    (Qg Qu : Vec F S512x7168 .i8)
    (k : Fin k0_t1_loop.trips) (c : Fin 4) (slot slot' : Fin 2) (hne : slot' ≠ slot) (L : List (View.Piece (Elt F) S2x2x256x512 .i8)) (n : ℕ)
    (h : Holds (v.read (Elt F) (v.writes (Elt F) f L)) Q slot' n) :
    Holds (v.read (Elt F) (v.writes (Elt F) f (putCodes Qg Qu k c slot L))) Q slot' n := by
  intro m a b
  unfold putCodes
  have hv : slot'.val ≠ slot.val := fun e => hne (Fin.ext e)
  have ho : ∀ m' : Fin 2, (slot'.val < slot.val ∨ slot.val + 1 ≤ slot'.val) := fun _ => by omega
  rw [View.read_writes_cons_unit_of_not_mem v f _ _ _ _ rfl (0 : Fin 4) (ho 1),
    View.read_writes_cons_unit_of_not_mem v f _ _ _ _ rfl (0 : Fin 4) (ho 0)]
  exact h m a b

/-- The codes a tile reads from a slot that holds a chunk are the chunk's. -/
theorem codeAt_of_holds {Y : Vec F S2x2x256x512 .i8} {Q : Fin 2 → Vec F S512x7168 .i8} {slot : Fin 2} {n : ℕ} (h : Holds Y Q slot n)
    (half m : Fin 2) : codeAt (F := F) Y slot half m = codeOf (Q m) n half := by
  funext kb j i
  have e : (Rect.unit (s := S2x2x256x512) ![slot.val, m.val, 32 * kb.val, 256 * half.val + 128 * j.val] S1x1x32x128.size
      (codeOff_inb slot half m kb j)).toLoadRect.idx i
      = ix4 slot m (⟨32 * kb.val + (i 2).val, by have : (i 2).val < 32 := (i 2).isLt; omega⟩ : Fin 256)
        (⟨256 * half.val + 128 * j.val + (i 3).val, by have : (i 3).val < 128 := (i 3).isLt; omega⟩ : Fin 512) := by
    have h0 : (i 0).val < 1 := (i 0).isLt
    have h1 : (i 1).val < 1 := (i 1).isLt
    funext x
    refine Fin.ext ?_
    match x with
    | ⟨0, _⟩ => show slot.val + 1 * (i 0).val = slot.val; omega
    | ⟨1, _⟩ => show m.val + 1 * (i 1).val = m.val; omega
    | ⟨2, _⟩ => show 32 * kb.val + 1 * (i 2).val = 32 * kb.val + (i 2).val; omega
    | ⟨3, _⟩ => show 256 * half.val + 128 * j.val + 1 * (i 3).val = 256 * half.val + 128 * j.val + (i 3).val; omega
  show Y _ = _
  rw [e, h]
  refine congrArg (Q m) (funext fun x => Fin.ext ?_)
  match x with
  | ⟨0, _⟩ => rfl
  | ⟨1, _⟩ => show 256 * ch n + (32 * kb.val + (i 2).val) = 256 * ch n + 32 * kb.val + (i 2).val; omega

/-- The scales a trip reads are the chunk's. -/
theorem scaleAt_eq (S : Vec F S2x4x224x128 .f32) (k : Fin k0_t1_loop.trips) (c : Fin 4) (half m : Fin 2) :
    scaleAt (F := F) S k c half m = scaleOf S (4 * k.val + c.val) half m := by
  funext kb j i
  have h0 : (i 0).val < 1 := (i 0).isLt
  have h1 : (i 1).val < 1 := (i 1).isLt
  have h2 : (i 2).val < 1 := (i 2).isLt
  have hk := trips_lt k
  have he := scOff_eq half m j k c kb
  unfold scaleAt scaleOf ldAt
  refine congrArg S (funext fun x => Fin.ext ?_)
  match x with
  | ⟨0, _⟩ => show scOff half m j k (BitVec.ofNat 32 c.val) (BitVec.ofNat 32 kb.val) 0 + 1 * (i 0).val = m.val; rw [he]; show m.val + 1 * (i 0).val = m.val; omega
  | ⟨1, _⟩ => show scOff half m j k (BitVec.ofNat 32 c.val) (BitVec.ofNat 32 kb.val) 1 + 1 * (i 1).val = 2 * half.val + j.val; rw [he]; show 2 * half.val + j.val + 1 * (i 1).val = 2 * half.val + j.val; omega
  | ⟨2, _⟩ => show scOff half m j k (BitVec.ofNat 32 c.val) (BitVec.ofNat 32 kb.val) 2 + 1 * (i 2).val = 8 * ch (4 * k.val + c.val) + kb.val; rw [he]; show 32 * k.val + 8 * c.val + kb.val + 1 * (i 2).val = 8 * min (4 * k.val + c.val) 27 + kb.val; omega
  | ⟨3, _⟩ => show scOff half m j k (BitVec.ofNat 32 c.val) (BitVec.ofNat 32 kb.val) 3 + 1 * (i 3).val = (i 3).val; rw [he]; show 0 + 1 * (i 3).val = (i 3).val; omega

/-- The activations a trip reads are the chunk's. -/
theorem xAt_eq (X : Vec F S16x7168 .bf16) (k : Fin k0_t1_loop.trips) (c : Fin 4) : xAt (F := F) X k c = xOf X (4 * k.val + c.val) := by
  funext i
  have hk := trips_lt k
  have he := k0_off2_eq k c
  unfold xAt xOf
  refine (shapeCast_apply _ _ _ i rfl).trans ?_
  refine congrArg X (funext fun x => Fin.ext ?_)
  match x with
  | ⟨0, _⟩ => show k0_off2 k (BitVec.ofNat 32 c.val) 0 + 1 * (i 0).val = (i 0).val; rw [he]; show 0 + 1 * (i 0).val = (i 0).val; omega
  | ⟨1, _⟩ => show k0_off2 k (BitVec.ofNat 32 c.val) 1 + 1 * (i 1).val = 256 * min (4 * k.val + c.val) 27 + (i 1).val; rw [he]; show 1024 * k.val + 256 * c.val + 1 * (i 1).val = 256 * min (4 * k.val + c.val) 27 + (i 1).val; omega

/-- The tiles a trip reads from a slot that holds its chunk are the chunk's. -/
theorem tileAt_of_holds {Y : Vec F S2x2x256x512 .i8} {Q : Fin 2 → Vec F S512x7168 .i8} {slot : Fin 2} (S : Vec F S2x4x224x128 .f32)
    {k : Fin k0_t1_loop.trips} {c : Fin 4} (h : Holds Y Q slot (4 * k.val + c.val)) :
    tileAt (F := F) Y S k c slot = tileW Q S (4 * k.val + c.val) := by
  funext half m
  unfold tileAt tileW
  rw [codeAt_of_holds h, scaleAt_eq]

/-- A trip takes the matrix units through four chunks, where slot 0 held the first of them. -/
theorem tripStep_eq (v : View sig .tc .vmem S2x2x256x512 .i8) (f : v.ty.Contents (Elt F)) (X : Vec F S16x7168 .bf16)
    (Q : Fin 2 → Vec F S512x7168 .i8) (S : Vec F S2x4x224x128 .f32) (s : Mxu F) (k : Fin k0_t1_loop.trips)
    (h : Holds (v.read (Elt F) f) Q 0 (4 * k.val)) :
    tripStep X S (codesSeen v f (tripPieces (Q 0) (Q 1) k)) k (stateAt X Q S s (4 * k.val)) = stateAt X Q S s (4 * (k.val + 1)) := by
  show _ = chunkStep (xOf X (4 * k.val + 3)) (tileW Q S (4 * k.val + 3)) (chunkStep (xOf X (4 * k.val + 2)) (tileW Q S (4 * k.val + 2))
    (chunkStep (xOf X (4 * k.val + 1)) (tileW Q S (4 * k.val + 1)) (chunkStep (xOf X (4 * k.val)) (tileW Q S (4 * k.val)) (stateAt X Q S s (4 * k.val)))))
  have h0 : tileAt (codesSeen v f (tripPieces (Q 0) (Q 1) k) 0) S k 0 0 = tileW Q S (4 * k.val) := tileAt_of_holds S (c := 0) h
  have h1 : tileAt (codesSeen v f (tripPieces (Q 0) (Q 1) k) 1) S k 1 1 = tileW Q S (4 * k.val + 1) :=
    tileAt_of_holds S (c := 1) (holds_putCodes_ne v _ Q _ _ k 1 0 1 (by decide) _ _ (holds_putCodes v _ Q k 0 1 _))
  have h2 : tileAt (codesSeen v f (tripPieces (Q 0) (Q 1) k) 2) S k 2 0 = tileW Q S (4 * k.val + 2) :=
    tileAt_of_holds S (c := 2) (holds_putCodes_ne v _ Q _ _ k 2 1 0 (by decide) _ _ (holds_putCodes v _ Q k 1 0 _))
  have h3 : tileAt (codesSeen v f (tripPieces (Q 0) (Q 1) k) 3) S k 3 1 = tileW Q S (4 * k.val + 3) :=
    tileAt_of_holds S (c := 3) (holds_putCodes_ne v _ Q _ _ k 3 0 1 (by decide) _ _ (holds_putCodes v _ Q k 2 1 _))
  unfold tripStep
  rw [h0, h1, h2, h3, xAt_eq, xAt_eq, xAt_eq, xAt_eq]
  rfl

/-- After a trip slot 0 holds the next trip's first chunk. -/
theorem holds_trip (v : View sig .tc .vmem S2x2x256x512 .i8) (f : v.ty.Contents (Elt F)) (Q : Fin 2 → Vec F S512x7168 .i8)
    (k : Fin k0_t1_loop.trips) :
    Holds (v.read (Elt F) (v.writes (Elt F) f (tripPieces (Q 0) (Q 1) k 4))) Q 0 (4 * (k.val + 1)) :=
  holds_putCodes v f Q k 3 0 _

/-- A step leaves empty registers empty. -/
theorem reg_pushAcc_none {q r : Fin 2} {A : ℕ} {h : Mxu.Fits A 16} (s : Mxu F) (t : FVec F S256x256 .bf16) (x : FVec F S16x256 .bf16)
    (hs : ∀ q r, s.reg q r = none) (q' r' : Fin 2) : (Mxu.pushAcc q r false A h s t x).reg q' r' = none := by
  by_cases e : q' = q ∧ r' = r
  · obtain ⟨rfl, rfl⟩ := e
    exact Mxu.reg_pushAcc _ _ _ _ _ _ _ _
  · unfold Mxu.pushAcc
    rw [Mxu.reg_accLhs_ne _ _ _ _ _ _ _ _ e, Mxu.reg_pushed_ne _ _ _ _ _ _ _ e]
    exact hs q' r'

/-- A chunk's steps leave the staging registers empty. -/
theorem reg_chunkStep (x : FVec F S16x256 .bf16) (t : Fin 2 → Fin 2 → FVec F S256x256 .bf16) (s : Mxu F)
    (h : ∀ q r, s.reg q r = none) : ∀ q r, (chunkStep x t s).reg q r = none :=
  reg_pushAcc_none _ _ _ (reg_pushAcc_none _ _ _ (reg_pushAcc_none _ _ _ (reg_pushAcc_none _ _ _ h)))

/-- Before every chunk the staging registers are empty. -/
theorem reg_stateAt (X : Vec F S16x7168 .bf16) (Q : Fin 2 → Vec F S512x7168 .i8) (S : Vec F S2x4x224x128 .f32) (s : Mxu F)
    (h : ∀ q r, s.reg q r = none) (n : ℕ) (q r : Fin 2) : (stateAt X Q S s n).reg q r = none := by
  induction n generalizing q r with
  | zero => exact h q r
  | succ n ih => exact reg_chunkStep _ _ _ ih q r

end Cert.Proof.K

end
-- ==== Proof.Bits.Loop.lean ====
module

public import proofs.«01_k».proof.Proof.Bits.Chunk

/-! The kernel's loop: the matrix units and the buffer of transposed codes before each trip. -/

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The matrix units and the contents of the buffer of transposed codes before trip `k`. -/
def loopAt (X : Vec F S16x7168 .bf16) (Q : Fin 2 → Vec F S512x7168 .i8) (S : Vec F S2x4x224x128 .f32)
    (v : View sig .tc .vmem S2x2x256x512 .i8) (s : Mxu F) (f : v.ty.Contents (Elt F)) : ℕ → Mxu F × v.ty.Contents (Elt F)
  | 0 => (s, f)
  | k + 1 =>
    if h : k < k0_t1_loop.trips then
      (tripStep X S (codesSeen v (loopAt X Q S v s f k).2 (tripPieces (Q 0) (Q 1) ⟨k, h⟩)) ⟨k, h⟩ (loopAt X Q S v s f k).1,
        v.writes (Elt F) (loopAt X Q S v s f k).2 (tripPieces (Q 0) (Q 1) ⟨k, h⟩ 4))
    else loopAt X Q S v s f k

/-- Trip `k` takes the units to what they are before trip `k + 1`. -/
theorem loopAt_fst (X : Vec F S16x7168 .bf16) (Q : Fin 2 → Vec F S512x7168 .i8) (S : Vec F S2x4x224x128 .f32)
    (v : View sig .tc .vmem S2x2x256x512 .i8) (s : Mxu F) (f : v.ty.Contents (Elt F)) (k : Fin k0_t1_loop.trips) :
    (loopAt X Q S v s f (k.val + 1)).1
      = tripStep X S (codesSeen v (loopAt X Q S v s f k.val).2 (tripPieces (Q 0) (Q 1) k)) k (loopAt X Q S v s f k.val).1 := by
  rw [loopAt, dif_pos k.isLt]

/-- Trip `k` takes the buffer to what it is before trip `k + 1`. -/
theorem loopAt_snd (X : Vec F S16x7168 .bf16) (Q : Fin 2 → Vec F S512x7168 .i8) (S : Vec F S2x4x224x128 .f32)
    (v : View sig .tc .vmem S2x2x256x512 .i8) (s : Mxu F) (f : v.ty.Contents (Elt F)) (k : Fin k0_t1_loop.trips) :
    (loopAt X Q S v s f (k.val + 1)).2 = v.writes (Elt F) (loopAt X Q S v s f k.val).2 (tripPieces (Q 0) (Q 1) k 4) := by
  rw [loopAt, dif_pos k.isLt]

/-- From empty staging registers every trip begins with empty ones. -/
theorem reg_loopAt (X : Vec F S16x7168 .bf16) (Q : Fin 2 → Vec F S512x7168 .i8) (S : Vec F S2x4x224x128 .f32)
    (v : View sig .tc .vmem S2x2x256x512 .i8) (s : Mxu F) (f : v.ty.Contents (Elt F)) (h : ∀ q r, s.reg q r = none) (k : ℕ) :
    ∀ q r, (loopAt X Q S v s f k).1.reg q r = none := by
  induction k with
  | zero => exact h
  | succ k ih =>
    rw [loopAt]
    split
    · exact reg_chunkStep _ _ _ (reg_chunkStep _ _ _ (reg_chunkStep _ _ _ (reg_chunkStep _ _ _ ih)))
    · exact ih

/-- Where slot 0 held the first chunk, the units before trip `k` are those before chunk `4k`. -/
theorem loopAt_eq (X : Vec F S16x7168 .bf16) (Q : Fin 2 → Vec F S512x7168 .i8) (S : Vec F S2x4x224x128 .f32)
    (v : View sig .tc .vmem S2x2x256x512 .i8) (s : Mxu F) (f : v.ty.Contents (Elt F)) (h : Holds (v.read (Elt F) f) Q 0 0) (k : ℕ)
    (hk : k ≤ 7) : (loopAt X Q S v s f k).1 = stateAt X Q S s (4 * k) ∧ Holds (v.read (Elt F) (loopAt X Q S v s f k).2) Q 0 (4 * k) := by
  induction k with
  | zero => exact ⟨rfl, h⟩
  | succ k ih =>
    obtain ⟨h1, h2⟩ := ih (by omega)
    have hk' : k < k0_t1_loop.trips := by show k < 7; omega
    refine ⟨(loopAt_fst X Q S v s f ⟨k, hk'⟩).trans ?_, ?_⟩
    · refine (congrArg (tripStep X S _ _) h1).trans ?_
      exact tripStep_eq v _ X Q S s ⟨k, hk'⟩ h2
    · have e := loopAt_snd X Q S v s f ⟨k, hk'⟩
      have e' := holds_trip v (loopAt X Q S v s f k).2 Q ⟨k, hk'⟩
      rw [← e] at e'
      exact e'

attribute [irreducible] loopAt

/-- The units before trip `k`, those before the first trip spelled out. -/
@[reducible] def loopUnits (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) : Mxu F :=
  match k with
  | 0 => s
  | k + 1 => (loopAt X Q S v s f (k + 1)).1

/-- The buffer before trip `k`, that before the first trip spelled out. -/
@[reducible] def loopBuf (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) : v.ty.Contents (Elt F) :=
  match k with
  | 0 => f
  | k + 1 => (loopAt X Q S v s f (k + 1)).2

/-- The units are `loopAt`'s. -/
theorem loopUnits_eq (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) :
    loopUnits X Q S v s f k = (loopAt X Q S v s f k).1 := by
  cases k with
  | zero => unfold loopAt; rfl
  | succ k => rfl

/-- And the buffer is. -/
theorem loopBuf_eq (X : Vec F S16x7168 .bf16) (Q : Fin 2 → Vec F S512x7168 .i8) (S : Vec F S2x4x224x128 .f32)
    (v : View sig .tc .vmem S2x2x256x512 .i8) (s : Mxu F) (f : v.ty.Contents (Elt F)) (k : ℕ) :
    loopBuf X Q S v s f k = (loopAt X Q S v s f k).2 := by
  cases k with
  | zero => unfold loopAt; rfl
  | succ k => rfl

/-- The loop's invariant: the units and the buffer are those before trip `k`; the activations, the codes and the scales stay. -/
@[instance_reducible, sl_loop] def loopInv_k0_t1 (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole) (k0_mxu1 : Mxu F) (v57 : FVec F S224x512 .f32) (v66 : FVec F S224x128 .f32)
    (f1 : Buf (Elt F) (arg1.view.loc (c : Thread nD τ))) (f2 : Buf (Elt F) (arg2.view.loc (c : Thread nD τ)))
    (f4 : Buf (Elt F) (arg4.view.loc (c : Thread nD τ))) (f7 : Buf (Elt F) (arg7.view.loc (c : Thread nD τ)))
    (f8 : Buf (Elt F) (arg8.view.loc (c : Thread nD τ))) :
    LoopInvTy_k0_t1 (F := F) Unit ℕ (UR sig nD τ) ℕ Variants.none c none Set.univ i arg1 harg1 arg2 harg2 arg3 harg3 arg4 harg4 arg5 harg5 arg6 harg6
      arg7 harg7 arg8 harg8 k0_mxu1 v57 v66 Mxu.init where
  inv k acc := iprop(⌜acc = loopUnits (arg1.view.read (Elt F) f1) ![arg2.view.read (Elt F) f2, arg4.view.read (Elt F) f4] (arg7.view.read (Elt F) f7) arg8.view Mxu.init f8 k⌝
    ∗ (arg1.view.loc (c : Thread nD τ) ↦{fullShare} f1) ∗ (arg2.view.loc (c : Thread nD τ) ↦{fullShare} f2)
    ∗ (arg4.view.loc (c : Thread nD τ) ↦{fullShare} f4) ∗ (arg7.view.loc (c : Thread nD τ) ↦{fullShare} f7)
    ∗ (arg8.view.loc (c : Thread nD τ) ↦{fullShare}
        loopBuf (arg1.view.read (Elt F) f1) ![arg2.view.read (Elt F) f2, arg4.view.read (Elt F) f4] (arg7.view.read (Elt F) f7) arg8.view Mxu.init f8 k))
  step k acc := by
    rw [loopUnits_eq, loopBuf_eq]
    iintro ⟨%hacc, H1, H2, H4, H7, H8⟩
    subst hacc
    iapply (wp_wand_r Idealize.ShloMosaic.frame (wpE (defs₀ (F := F)) Variants.none (c : Thread nD τ) none) Set.univ)
    isplitl [H1 H2 H4 H7 H8]
    · iapply (trip (F := F) c i arg1 harg1 arg2 harg2 arg3 harg3 arg4 harg4 arg5 harg5 arg6 harg6 arg7 harg7 arg8 harg8 k0_mxu1 v57 v66 k _
        (reg_loopAt _ _ _ _ _ _ (fun _ _ => rfl) _) f1 f2 f4 f7 _)
      iframe H1 H2 H4 H7
      iexact H8
    · iintro %s' ⟨%hs, H1, H2, H4, H7, H8⟩
      rw [loopUnits_eq, loopBuf_eq, loopAt_fst, loopAt_snd]
      isplitr
      · ipureintro; exact hs
      · iframe H1 H2 H4 H7
        iexact H8

end Cert.Proof.K

end
-- ==== Proof.Bits.Body.lean ====
module

public import proofs.«01_k».proof.Proof.Bits.Loop

/-! The kernel's body at one grid point: what it leaves in the output block. -/

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The stores of the decoded scales, last first: each matrix's four groups of 128 columns. -/
def scalePieces (d0 d1 : Vec F S512x224 .i16) : List (View.Piece (Elt F) S2x4x224x128 .f32) :=
  [⟨Rect.unit (s := S2x4x224x128) ![1, 3, 0, 0] S1x1x224x128.size inb_S2x4x224x128_S1x1x224x128_1_3_0_0, k0_pay274 (k0_pay269 d1)⟩,
    ⟨Rect.unit (s := S2x4x224x128) ![1, 2, 0, 0] S1x1x224x128.size inb_S2x4x224x128_S1x1x224x128_1_2_0_0, k0_pay273 (k0_pay272 d1)⟩,
    ⟨Rect.unit (s := S2x4x224x128) ![1, 1, 0, 0] S1x1x224x128.size inb_S2x4x224x128_S1x1x224x128_1_1_0_0, k0_pay271 d1⟩,
    ⟨Rect.unit (s := S2x4x224x128) ![1, 0, 0, 0] S1x1x224x128.size inb_S2x4x224x128_S1x1x224x128_1_0_0_0, k0_pay270 d1⟩,
    ⟨Rect.unit (s := S2x4x224x128) ![0, 3, 0, 0] S1x1x224x128.size inb_S2x4x224x128_S1x1x224x128_0_3_0_0, k0_pay268 (k0_pay267 d0)⟩,
    ⟨Rect.unit (s := S2x4x224x128) ![0, 2, 0, 0] S1x1x224x128.size inb_S2x4x224x128_S1x1x224x128_0_2_0_0, k0_pay266 d0⟩,
    ⟨Rect.unit (s := S2x4x224x128) ![0, 1, 0, 0] S1x1x224x128.size inb_S2x4x224x128_S1x1x224x128_0_1_0_0, k0_pay265 d0⟩,
    ⟨Rect.unit (s := S2x4x224x128) ![0, 0, 0, 0] S1x1x224x128.size inb_S2x4x224x128_S1x1x224x128_0_0_0_0, k0_pay264 d0⟩]

/-- They fill the buffer. -/
theorem scale_cover (d0 d1 : Vec F S512x224 .i16) (y : S2x4x224x128.Idx) : ∃ pc ∈ scalePieces d0 d1, y ∈ pc.1.set :=
  View.cover_of_tiled (scalePieces d0 d1) S1x1x224x128.size (by rfl) y

/-- The decoded scales of a block's two matrices. -/
def scaleBuf (d0 d1 : Vec F S512x224 .i16) : Vec F S2x4x224x128 .f32 := View.canon (scalePieces d0 d1)

/-- The whole block of words. -/
abbrev rWords : Rect S512x224 := Rect.unit (s := S512x224) ![0, 0] S512x224.size inb_S512x224_S512x224_0_0

/-- The matrix units after the last chunk. -/
def lastState (x1 : Vec F S16x7168 .bf16) (x2 : Vec F S512x7168 .i8) (x3 : Vec F S512x224 .i16) (x4 : Vec F S512x7168 .i8) (x5 : Vec F S512x224 .i16) : Mxu F :=
  stateAt x1 ![x2, x4] (scaleBuf (View.ld x3 rWords) (View.ld x5 rWords)) Mxu.init 28

/-- The two stores into the output block, last first: the second half of the block's columns, then the first. -/
def outPieces (g0 u0 g1 u1 : FVec F S16x256 .f32) : List (View.Piece (Elt F) S16x512 .bf16) :=
  [⟨Rect.unit (s := S16x512) ![0, 256] S16x256.size inb_S16x512_S16x256_0_256, k0_pay1 g1 u1⟩,
   ⟨Rect.unit (s := S16x512) ![0, 0] S16x256.size inb_S16x512_S16x256_0_0, k0_pay277 g0 u0⟩]

/-- They fill the block. -/
theorem out_cover (g0 u0 g1 u1 : FVec F S16x256 .f32) (y : S16x512.Idx) : ∃ pc ∈ outPieces g0 u0 g1 u1, y ∈ pc.1.set :=
  View.cover_of_tiled (outPieces g0 u0 g1 u1) S16x256.size (by rfl) y

/-- The output block of the four accumulators. -/
def outOf (g0 u0 g1 u1 : FVec F S16x256 .f32) : Vec F S16x512 .bf16 := View.canon (outPieces g0 u0 g1 u1)

/-- Equal products make equal outputs. -/
theorem outOf_congr {g0 u0 g1 u1 g0' u0' g1' u1' : FVec F S16x256 .f32} (h1 : g0 = g0') (h2 : u0 = u0') (h3 : g1 = g1') (h4 : u1 = u1') :
    outOf g0 u0 g1 u1 = outOf g0' u0' g1' u1' := by rw [h1, h2, h3, h4]

/-- The output block of matrix units that are done. -/
def outUnits (s : Mxu F) : Vec F S16x512 .bf16 :=
  outOf (s.read 0 0 fits_0_16) (s.read 1 0 fits_0_16) (s.read 0 4 fits_4_16) (s.read 1 4 fits_4_16)

/-- The output block of the inputs. -/
def outBlock (x1 : Vec F S16x7168 .bf16) (x2 : Vec F S512x7168 .i8) (x3 : Vec F S512x224 .i16) (x4 : Vec F S512x7168 .i8) (x5 : Vec F S512x224 .i16) : Vec F S16x512 .bf16 := outUnits (lastState x1 x2 x3 x4 x5)

/-- The first chunk's two stores leave it in slot 0. -/
theorem holds_first (v : View sig .tc .vmem S2x2x256x512 .i8) (f : v.ty.Contents (Elt F)) (Q : Fin 2 → Vec F S512x7168 .i8)
    (q0 q1 : Vec F S512x256 .i8) (h0 : q0 = View.ld (Q 0) (Rect.unit (s := S512x7168) ![0, 0] S512x256.size inb_S512x7168_S512x256_0_0))
    (h1 : q1 = View.ld (Q 1) (Rect.unit (s := S512x7168) ![0, 0] S512x256.size inb_S512x7168_S512x256_0_0)) :
    Holds (v.read (Elt F) (v.writes (Elt F) f
      [⟨Rect.unit (s := S2x2x256x512) ![0, 1, 0, 0] S1x1x256x512.size inb_S2x2x256x512_S1x1x256x512_0_1_0_0, k0_pay276 q1⟩,
       ⟨Rect.unit (s := S2x2x256x512) ![0, 0, 0, 0] S1x1x256x512.size inb_S2x2x256x512_S1x1x256x512_0_0_0_0, k0_pay275 q0⟩])) Q 0 0 := by
  intro m a b
  subst h0 h1
  have hx : ∀ (m' : Fin 2) (x : Fin 4), ((ix4 (0 : Fin 2) m' a b : S2x2x256x512.Idx) x).val
      = (![0, m'.val, 0, 0] : Fin 4 → ℕ) x + ((ix4 (0 : Fin 1) (0 : Fin 1) a b : S1x1x256x512.Idx) x).val := fun m' x => by
    match x with
    | ⟨0, _⟩ => rfl
    | ⟨1, _⟩ => rfl
    | ⟨2, _⟩ => exact (Nat.zero_add _).symm
    | ⟨3, _⟩ => exact (Nat.zero_add _).symm
  have hl : ∀ Q : Vec F S512x7168 .i8, View.ld Q (Rect.unit (s := S512x7168) ![0, 0] S512x256.size inb_S512x7168_S512x256_0_0) (ix2 b a)
      = Q (ix2 b (⟨256 * ch 0 + a.val, by have := ch_lt 0; omega⟩ : Fin 7168)) := fun Q =>
    congrArg Q (funext fun x => Fin.ext (by
      match x with
      | ⟨0, _⟩ => show 0 + 1 * b.val = b.val; omega
      | ⟨1, _⟩ => show 0 + 1 * a.val = 256 * min 0 27 + a.val; omega))
  match m with
  | 1 =>
    refine (View.read_writes_cons_unit_of_mem v f (slot_inb 0 1) _ _ _ (ix4 (0 : Fin 1) (0 : Fin 1) a b) rfl (hx 1)).trans ?_
    exact (transposed_apply _ a b).trans (hl _)
  | 0 =>
    rw [View.read_writes_cons_unit_of_not_mem v f _ _ _ _ rfl (1 : Fin 4) (Or.inl (by show (0:ℕ) < 1; omega))]
    refine (View.read_writes_cons_unit_of_mem v f (slot_inb 0 0) _ _ _ (ix4 (0 : Fin 1) (0 : Fin 1) a b) rfl (hx 0)).trans ?_
    exact (transposed_apply _ a b).trans (hl _)

/-- After the loop the units are those after the last chunk. -/
theorem units_last (X : Vec F S16x7168 .bf16) (Q : Fin 2 → Vec F S512x7168 .i8) (S : Vec F S2x4x224x128 .f32)
    (v : View sig .tc .vmem S2x2x256x512 .i8) (s : Mxu F) (f : v.ty.Contents (Elt F)) (h : Holds (v.read (Elt F) f) Q 0 0) :
    loopUnits X Q S v s f (Scf.trips k0_t1_loop.lb k0_t1_loop.ub k0_t1_loop.st) = stateAt X Q S s 28 := by
  rw [loopUnits_eq]
  exact (loopAt_eq X Q S v s f h 7 (le_refl _)).1

set_option maxHeartbeats 8000000 in
set_option maxRecDepth 65536 in
/-- The body on its buffers' contents: the inputs stay, the output block is `outBlock` of them, the scratch buffers end at anything. -/
theorem body_raw (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole)
    (f1 : Buf (Elt F) (arg1.view.loc (c : Thread nD τ)))
    (f2 : Buf (Elt F) (arg2.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ))) :
   (iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8)) : sProp 𝕄)
   ⊢ wp frame (wpE (defs₀ (F := F)) Variants.none (c : Thread nD τ) none) Set.univ
      (cc0_q8_gated (F := F) i arg1 harg1 arg2 harg2 arg3 harg3 arg4 harg4 arg5 harg5 arg6 harg6 arg7 harg7 arg8 harg8)
      (fun _ => iprop((arg1.view.loc (c : Thread nD τ) ↦{fullShare} f1) ∗ (arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5)
        ∗ (∃ g, ⌜arg6.view.read (Elt F) g = outBlock (arg1.view.read (Elt F) f1) (arg2.view.read (Elt F) f2) (arg3.view.read (Elt F) f3) (arg4.view.read (Elt F) f4) (arg5.view.read (Elt F) f5)⌝ ∗ (arg6.view.loc (c : Thread nD τ) ↦{fullShare} g)) ∗ (∃ g, (arg7.view.loc (c : Thread nD τ) ↦{fullShare} g)) ∗ (∃ g, (arg8.view.loc (c : Thread nD τ) ↦{fullShare} g)))) := by
  simp only [cc0_q8_gated_eq_skeleton]; unfold cc0_q8_gated_skel
  iintro ⟨H1, H2, H3, H4, H5, H6, H7, H8⟩
  sl_exec_parts (disch := (mxu_pushok_peel <;> exact Mxu.pushOk_of_none _ _ _ _ (fun _ _ => rfl)))
  sl_exec
  sl_step
  iframe H1 H2 H3 H4 H5
  isplitl [H6]
  · iexists _; isplitr
    swap; · iexact H6
    ipureintro
    have hS : ∀ g, arg7.view.read (Elt F) (arg7.view.writes (Elt F) g (body_raw.sl.H7_8 c arg3 arg5 f3 f5))
        = scaleBuf (View.ld (arg3.view.read (Elt F) f3) rWords) (View.ld (arg5.view.read (Elt F) f5) rWords) := fun g =>
      View.read_writes_eq_canon _ _ _ (scale_cover _ _)
    refine (View.read_writes_eq_canon _ _ _ (out_cover _ _ _ _)).trans ?_
    have hU := units_last (arg1.view.read (Elt F) f1) ![arg2.view.read (Elt F) f2, arg4.view.read (Elt F) f4]
      (scaleBuf (View.ld (arg3.view.read (Elt F) f3) rWords) (View.ld (arg5.view.read (Elt F) f5) rWords)) arg8.view Mxu.init _
      (holds_first arg8.view f8 ![arg2.view.read (Elt F) f2, arg4.view.read (Elt F) f4] _ _ rfl rfl)
    unfold outBlock outUnits lastState
    rw [← hU, ← hS arg7.view.junk]
    refine outOf_congr ?_ ?_ ?_ ?_
    · rfl
    · unfold body_raw.sl.v89_r0 body_raw.sl.k0_mxu36
      rw [Mxu.read_pop_ne]
      · rfl
      all_goals decide
    · unfold body_raw.sl.v95_r0 body_raw.sl.k0_mxu37 body_raw.sl.k0_mxu36
      rw [Mxu.read_pop_ne, Mxu.read_pop_ne]
      · rfl
      all_goals decide
    · unfold body_raw.sl.v96_r0 body_raw.sl.k0_mxu38 body_raw.sl.k0_mxu37 body_raw.sl.k0_mxu36
      rw [Mxu.read_pop_ne, Mxu.read_pop_ne, Mxu.read_pop_ne]
      · rfl
      all_goals decide
  isplitl [H7]
  · iexists _; iexact H7
  iexists _; iexact H8

/-- The body on whole buffers: the inputs stay, the output block is `outBlock` of them, the scratch buffers end at anything. -/
theorem sound_kernel (c : Dev nD) (i : grid0.Coords) (arg1 : Memref sig .tc .vmem S16x7168 .bf16) (harg1 : arg1.IsWhole) (arg2 : Memref sig .tc .vmem S512x7168 .i8) (harg2 : arg2.IsWhole) (arg3 : Memref sig .tc .vmem S512x224 .i16) (harg3 : arg3.IsWhole) (arg4 : Memref sig .tc .vmem S512x7168 .i8) (harg4 : arg4.IsWhole) (arg5 : Memref sig .tc .vmem S512x224 .i16) (harg5 : arg5.IsWhole) (arg6 : Memref sig .tc .vmem S16x512 .bf16) (harg6 : arg6.IsWhole) (arg7 : Memref sig .tc .vmem S2x4x224x128 .f32) (harg7 : arg7.IsWhole) (arg8 : Memref sig .tc .vmem S2x2x256x512 .i8) (harg8 : arg8.IsWhole)
   (x1 : Vec F S16x7168 .bf16) (x2 : Vec F S512x7168 .i8) (x3 : Vec F S512x224 .i16) (x4 : Vec F S512x7168 .i8) (x5 : Vec F S512x224 .i16) (K : PUnit → sProp 𝕄) :
   iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (outBlock x1 x2 x3 x4 x5) ∗ (∃ d, owns (c : Thread nD τ) arg7 fullShare d) ∗ (∃ d, owns (c : Thread nD τ) arg8 fullShare d)) -∗ K ⟨⟩))
   ⊢ wp frame (wpE (defs₀ (F := F)) Variants.none (c : Thread nD τ) none) Set.univ
      (cc0_q8_gated (F := F) i arg1 harg1 arg2 harg2 arg3 harg3 arg4 harg4 arg5 harg5 arg6 harg6 arg7 harg7 arg8 harg8) K := by
  unfold owns
  simp only [harg1.set_eq_univ, harg2.set_eq_univ, harg3.set_eq_univ, harg4.set_eq_univ, harg5.set_eq_univ, harg6.set_eq_univ, harg7.set_eq_univ, harg8.set_eq_univ]
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  iapply (wp_wand_r Idealize.ShloMosaic.frame (wpE (defs₀ (F := F)) Variants.none (c : Thread nD τ) none) Set.univ)
  isplitl [H1 H2 H3 H4 H5 H6 H7 H8]
  · iapply (body_raw (F := F) c i arg1 harg1 arg2 harg2 arg3 harg3 arg4 harg4 arg5 harg5 arg6 harg6 arg7 harg7 arg8 harg8 f1 f2 f3 f4 f5 f6 f7 f8)
    iframe H1 H2 H3 H4 H5 H6 H7
    iexact H8
  iintro %_ ⟨H1, H2, H3, H4, H5, ⟨%g, %hg, H6⟩, ⟨%g7, H7⟩, ⟨%g8, H8⟩⟩
  iapply Hk
  isplitl [H1]; · (iexists f1; isplitr; · (ipureintro; rfl)
                   iexact H1)
  isplitl [H2]; · (iexists f2; isplitr; · (ipureintro; rfl)
                   iexact H2)
  isplitl [H3]; · (iexists f3; isplitr; · (ipureintro; rfl)
                   iexact H3)
  isplitl [H4]; · (iexists f4; isplitr; · (ipureintro; rfl)
                   iexact H4)
  isplitl [H5]; · (iexists f5; isplitr; · (ipureintro; rfl)
                   iexact H5)
  isplitl [H6]; · (iexists g; isplitr; · (ipureintro; exact hg)
                   iexact H6)
  isplitl [H7]
  · iexists _; iexists _; isplitr
    swap; · iexact H7
    ipureintro; rfl
  iexists _; iexists _; isplitr
  swap; · iexact H8
  ipureintro; rfl

end Cert.Proof.K

end
-- ==== Proof.Bits.Run.lean ====
module

public import proofs.«01_k».proof.Proof.Bits.Body
public import proofs.«01_k».proof.Proof.Gen.Kernel.Frame
public import Idealize.ShloMosaic.Lib.Claim

/-! The kernel's run: the grid's 40 points, each leaving its output block, and the frame. -/

@[expose] public section

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents around the body at each point: the inputs' blocks stay, the output's is `outBlock` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- The body leaves window 0, an input, as its block. -/
theorem after0_0 (c : Dev nD) (t : Fin cfg0.N) : (dats m 0 c).after 0 t = iblk m c 0 t := by dsimp only [dats]
/-- The body leaves window 1, an input, as its block. -/
theorem after0_1 (c : Dev nD) (t : Fin cfg0.N) : (dats m 0 c).after 1 t = iblk m c 1 t := by dsimp only [dats]
/-- The body leaves window 2, an input, as its block. -/
theorem after0_2 (c : Dev nD) (t : Fin cfg0.N) : (dats m 0 c).after 2 t = iblk m c 2 t := by dsimp only [dats]
/-- The body leaves window 3, an input, as its block. -/
theorem after0_3 (c : Dev nD) (t : Fin cfg0.N) : (dats m 0 c).after 3 t = iblk m c 3 t := by dsimp only [dats]
/-- The body leaves window 4, an input, as its block. -/
theorem after0_4 (c : Dev nD) (t : Fin cfg0.N) : (dats m 0 c).after 4 t = iblk m c 4 t := by dsimp only [dats]
/-- The output's block at a point. -/
theorem after0_5 (c : Dev nD) (t : Fin cfg0.N) : (dats m 0 c).after 5 t = outBlock (iblk m c 0 t) (iblk m c 1 t) (iblk m c 2 t) (iblk m c 3 t) (iblk m c 4 t) := by dsimp only [dats]
/-- The body finds its block in window 0. -/
theorem before0_0 (c : Dev nD) (t : Fin cfg0.N) (d) : (dats m 0 c).before 0 t d = iblk m c 0 t :=
  before0_0_of m (dats m 0 c) (A_eq m c 0) (after0_0 m c) t d
/-- The body finds its block in window 1. -/
theorem before0_1 (c : Dev nD) (t : Fin cfg0.N) (d) : (dats m 0 c).before 1 t d = iblk m c 1 t :=
  before0_1_of m (dats m 0 c) (A_eq m c 1) (after0_1 m c) t d
/-- The body finds its block in window 2. -/
theorem before0_2 (c : Dev nD) (t : Fin cfg0.N) (d) : (dats m 0 c).before 2 t d = iblk m c 2 t :=
  before0_2_of m (dats m 0 c) (A_eq m c 2) (after0_2 m c) t d
/-- The body finds its block in window 3. -/
theorem before0_3 (c : Dev nD) (t : Fin cfg0.N) (d) : (dats m 0 c).before 3 t d = iblk m c 3 t :=
  before0_3_of m (dats m 0 c) (A_eq m c 3) (after0_3 m c) t d
/-- The body finds its block in window 4. -/
theorem before0_4 (c : Dev nD) (t : Fin cfg0.N) (d) : (dats m 0 c).before 4 t d = iblk m c 4 t :=
  before0_4_of m (dats m 0 c) (A_eq m c 4) (after0_4 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The two scratch buffers are among what the region keeps. -/
theorem keeps_eq (c : Dev nD) : (Pipeline.ΦA (Val := Elt F) (U := UR sig nD τ) spec0 c : sProp 𝕄)
    = iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, keeps_eq]
  iintro ⟨⟨⟨⟨%g7, H7⟩, ⟨%g8, H8⟩⟩, Hp⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (Memref.whole cc0_scratch0) (Memref.isWhole_whole _) (Memref.whole cc0_scratch1) (Memref.isWhole_whole _)
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H7]
  · unfold owns
    simp only [(Memref.isWhole_whole (sig := sig) cc0_scratch0).set_eq_univ]
    iexists _; iexists g7; isplitr; · (ipureintro; rfl)
    iexact H7
  isplitl [H8]
  · unfold owns
    simp only [(Memref.isWhole_whole (sig := sig) cc0_scratch1).set_eq_univ]
    iexists _; iexists g8; isplitr; · (ipureintro; rfl)
    iexact H8
  iintro ⟨H0, H1, H2, H3, H4, H5, H7, H8⟩
  unfold owns
  simp only [(Memref.isWhole_whole (sig := sig) cc0_scratch0).set_eq_univ, (Memref.isWhole_whole (sig := sig) cc0_scratch1).set_eq_univ]
  icases H7 with ⟨%_, %e7, -, H7⟩
  icases H8 with ⟨%_, %e8, -, H8⟩
  isplitl [H7 H8 Hp]
  · isplitr [Hp]
    · isplitl [H7]
      · iexists e7; iexact H7
      · iexists e8; iexact H8
    · iexact Hp
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array ends at what the grid writes, the host lines after it run, and every semaphore ends at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every run ends with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.K

end
-- ==== Proof.Acc.lean ====
module

public import proofs.«01_k».proof.Proof.Chunk
public import Idealize.ShloMosaic.Lib.MatmulPlain

/-! What the four accumulators of the matrix units hold after the chunks: over the extended reals, the sum over the chunks
of the products of the chunk's activations with its tile of weights. -/

@[expose] public section

noncomputable section

namespace Cert.Proof.KI

open Cert.KernelIdeal Cert.KernelIdeal.Gen
open Idealize.ShloMosaic Idealize.ShloMosaic.TcCoe Idealize.ShloMosaic.ValueIdx
open scoped BigOperators

section Units

variable {F : FTy → Type} [FloatOps F]

/-- A step leaves the rows of another unit, and rows at other addresses, as they were. -/
theorem read_pushAcc_ne (q r : Fin 2) (A : ℕ) (h : Mxu.Fits A 16) (s : Mxu F) (t : FVec F S256x256 .bf16) (x : FVec F S16x256 .bf16)
    (q' : Fin 2) (A' : ℕ) (h' : Mxu.Fits A' 16) (hne : q' ≠ q ∨ 4 * A' + 16 ≤ 4 * A ∨ 4 * A + 16 ≤ 4 * A') :
    (Mxu.pushAcc q r false A h s t x).read q' A' h' = s.read q' A' h' := by
  unfold Mxu.pushAcc
  rw [Mxu.read_accLhs_ne _ _ _ _ _ _ _ _ _ hne, Mxu.read_pushed]

/-- Which rows are live after a step: its own, and those that were. -/
theorem live_pushAcc (q r : Fin 2) (A : ℕ) (h : Mxu.Fits A 16) (s : Mxu F) (t : FVec F S256x256 .bf16) (x : FVec F S16x256 .bf16)
    (q' : Fin 2) (R : Fin 1024) :
    (Mxu.pushAcc q r false A h s t x).live q' R = if q' = q ∧ 4 * A ≤ R.val ∧ R.val < 4 * A + 16 then true else s.live q' R := by
  unfold Mxu.pushAcc
  rw [Mxu.live_accLhs, Mxu.live_pushed]

/-- The accumulator of half `half` of a block's columns and matrix `m`. -/
def accOf (s : Mxu F) (half m : Fin 2) : FVec F S16x256 .f32 :=
  match half with
  | 0 => s.read m 0 fits_0_16
  | 1 => s.read m 4 fits_4_16

/-- Every row of every accumulator is live, or none is. -/
def AllLive (s : Mxu F) (b : Bool) : Prop := ∀ (m : Fin 2) (R : Fin 1024), R.val < 32 → s.live m R = b

/-- After a chunk every row of every accumulator is live. -/
theorem live_chunkStep (x : FVec F S16x256 .bf16) (t : Fin 2 → Fin 2 → FVec F S256x256 .bf16) (s : Mxu F) :
    AllLive (chunkStep x t s) true := by
  intro m R hR
  unfold chunkStep
  simp only [live_pushAcc]
  by_cases h : R.val < 16
  · match m with
    | 0 => simp [h]
    | 1 => simp [h]
  · have h1 : 4 * 4 ≤ R.val := by omega
    have h2 : R.val < 4 * 4 + 16 := by omega
    match m with
    | 0 => simp [h1, h2]
    | 1 => simp [h1, h2]

/-- The rows of an accumulator are among those. -/
theorem row_lt {A : ℕ} (h : Mxu.Fits A 16) (hA : A ≤ 4) (r : Fin 16) : (Mxu.row h r).val < 32 := by
  have hr : r.val < 16 := r.isLt
  show 4 * A + r.val < 32
  omega

/-- The first chunk leaves its passes in the accumulators. -/
theorem accOf_first (x : FVec F S16x256 .bf16) (t : Fin 2 → Fin 2 → FVec F S256x256 .bf16) (s : Mxu F)
    (hreg : ∀ q r, s.reg q r = none) (hl : AllLive s false) (half m : Fin 2) :
    accOf (chunkStep x t s) half m = Mxu.passOf false (t half m, x) := by
  have hr1 := reg_pushAcc_none (q := 0) (r := 0) (A := 0) (h := fits_0_16) s (t 0 0) x hreg
  have hr2 := reg_pushAcc_none (q := 1) (r := 0) (A := 0) (h := fits_0_16) _ (t 0 1) x hr1
  have hr3 := reg_pushAcc_none (q := 0) (r := 1) (A := 4) (h := fits_4_16) _ (t 1 0) x hr2
  have l4 : ∀ (u : Fin 2) (r' : Fin 16), s.live u (Mxu.row fits_4_16 r') = false := fun u r' => hl u _ (row_lt _ (by omega) r')
  have l0 : ∀ (u : Fin 2) (r' : Fin 16), s.live u (Mxu.row fits_0_16 r') = false := fun u r' => hl u _ (row_lt _ (by omega) r')
  have v4 : ∀ r' : Fin 16, (Mxu.row fits_4_16 r').val = 16 + r'.val := fun r' => by show 4 * 4 + r'.val = _; omega
  have v0 : ∀ r' : Fin 16, (Mxu.row fits_0_16 r').val = r'.val := fun r' => by show 4 * 0 + r'.val = _; omega
  unfold chunkStep accOf
  match half, m with
  | 0, 0 =>
    show Mxu.read _ 0 0 fits_0_16 = Mxu.passOf false (t 0 0, x)
    rw [read_pushAcc_ne _ _ _ _ _ _ _ _ _ _ (by decide), read_pushAcc_ne _ _ _ _ _ _ _ _ _ _ (by decide),
      read_pushAcc_ne _ _ _ _ _ _ _ _ _ _ (by decide)]
    exact Mxu.read_pushAcc_of_not_live 0 0 false 0 fits_0_16 _ _ _ (hreg 0 0) (l0 0)
  | 0, 1 =>
    show Mxu.read _ 1 0 fits_0_16 = Mxu.passOf false (t 0 1, x)
    rw [read_pushAcc_ne _ _ _ _ _ _ _ _ _ _ (by decide), read_pushAcc_ne _ _ _ _ _ _ _ _ _ _ (by decide)]
    exact Mxu.read_pushAcc_of_not_live 1 0 false 0 fits_0_16 _ _ _ (hr1 1 0) (fun r' => by rw [live_pushAcc]; simp [l0])
  | 1, 0 =>
    show Mxu.read _ 0 4 fits_4_16 = Mxu.passOf false (t 1 0, x)
    rw [read_pushAcc_ne _ _ _ _ _ _ _ _ _ _ (by decide)]
    exact Mxu.read_pushAcc_of_not_live 0 1 false 4 fits_4_16 _ _ _ (hr2 0 1) (fun r' => by simp [live_pushAcc, l4, v4])
  | 1, 1 =>
    show Mxu.read _ 1 4 fits_4_16 = Mxu.passOf false (t 1 1, x)
    exact Mxu.read_pushAcc_of_not_live 1 1 false 4 fits_4_16 _ _ _ (hr3 1 1) (fun r' => by simp [live_pushAcc, l4, v4])

/-- A later chunk adds its passes to the accumulators. -/
theorem accOf_next (x : FVec F S16x256 .bf16) (t : Fin 2 → Fin 2 → FVec F S256x256 .bf16) (s : Mxu F)
    (hreg : ∀ q r, s.reg q r = none) (hl : AllLive s true) (half m : Fin 2) :
    accOf (chunkStep x t s) half m = addf (accOf s half m) (Mxu.passOf false (t half m, x)) := by
  have hr1 := reg_pushAcc_none (q := 0) (r := 0) (A := 0) (h := fits_0_16) s (t 0 0) x hreg
  have hr2 := reg_pushAcc_none (q := 1) (r := 0) (A := 0) (h := fits_0_16) _ (t 0 1) x hr1
  have hr3 := reg_pushAcc_none (q := 0) (r := 1) (A := 4) (h := fits_4_16) _ (t 1 0) x hr2
  have l4 : ∀ (u : Fin 2) (r' : Fin 16), s.live u (Mxu.row fits_4_16 r') = true := fun u r' => hl u _ (row_lt _ (by omega) r')
  have l0 : ∀ (u : Fin 2) (r' : Fin 16), s.live u (Mxu.row fits_0_16 r') = true := fun u r' => hl u _ (row_lt _ (by omega) r')
  unfold chunkStep accOf
  match half, m with
  | 0, 0 =>
    show Mxu.read _ 0 0 fits_0_16 = addf (s.read 0 0 fits_0_16) (Mxu.passOf false (t 0 0, x))
    rw [read_pushAcc_ne _ _ _ _ _ _ _ _ _ _ (by decide), read_pushAcc_ne _ _ _ _ _ _ _ _ _ _ (by decide),
      read_pushAcc_ne _ _ _ _ _ _ _ _ _ _ (by decide)]
    exact Mxu.read_pushAcc_of_live 0 0 false 0 fits_0_16 _ _ _ (hreg 0 0) (l0 0)
  | 0, 1 =>
    show Mxu.read _ 1 0 fits_0_16 = addf (s.read 1 0 fits_0_16) (Mxu.passOf false (t 0 1, x))
    rw [read_pushAcc_ne _ _ _ _ _ _ _ _ _ _ (by decide), read_pushAcc_ne _ _ _ _ _ _ _ _ _ _ (by decide)]
    refine (Mxu.read_pushAcc_of_live 1 0 false 0 fits_0_16 _ _ _ (hr1 1 0) (fun r' => by rw [live_pushAcc]; simp [l0])).trans ?_
    rw [read_pushAcc_ne _ _ _ _ _ _ _ _ _ _ (by decide)]
  | 1, 0 =>
    show Mxu.read _ 0 4 fits_4_16 = addf (s.read 0 4 fits_4_16) (Mxu.passOf false (t 1 0, x))
    rw [read_pushAcc_ne _ _ _ _ _ _ _ _ _ _ (by decide)]
    refine (Mxu.read_pushAcc_of_live 0 1 false 4 fits_4_16 _ _ _ (hr2 0 1) (fun r' => by simp [live_pushAcc, l4])).trans ?_
    rw [read_pushAcc_ne _ _ _ _ _ _ _ _ _ _ (by decide), read_pushAcc_ne _ _ _ _ _ _ _ _ _ _ (by decide)]
  | 1, 1 =>
    show Mxu.read _ 1 4 fits_4_16 = addf (s.read 1 4 fits_4_16) (Mxu.passOf false (t 1 1, x))
    refine (Mxu.read_pushAcc_of_live 1 1 false 4 fits_4_16 _ _ _ (hr3 1 1) (fun r' => by simp [live_pushAcc, l4])).trans ?_
    rw [read_pushAcc_ne _ _ _ _ _ _ _ _ _ _ (by decide), read_pushAcc_ne _ _ _ _ _ _ _ _ _ _ (by decide),
      read_pushAcc_ne _ _ _ _ _ _ _ _ _ _ (by decide)]

end Units

/-- Over the extended reals a pass is the sum of the products. -/
theorem pass_apply (t : FVec Ideal S256x256 .bf16) (x : FVec Ideal S16x256 .bf16) (b : Fin 16) (c : Fin 256) :
    (Mxu.passOf (F := Ideal) false (t, x) : FVec Ideal S16x256 .f32) (ix2 b c) = ∑ k : Fin 256, x (ix2 b k) * t (ix2 k c) := by
  have h := Ideal.matmul_plain_apply (M := 16) (K := 256) (N := 256) none x t (fun _ => 0) b c
  rw [zero_add] at h
  refine Eq.trans ?_ h
  show Ideal.mxuPass (DotDims.plain 16 256 256) x t (ix2 b c) = Ideal.matmul (DotDims.plain 16 256 256) x t (fun _ => 0) (ix2 b c)
  unfold Ideal.mxuPass Ideal.matmul
  rw [zero_add]

/-- After `n + 1` chunks an accumulator holds the sum of the chunks' products. -/
theorem accOf_stateAt (X : Vec Ideal S16x7168 .bf16) (Q : Fin 2 → Vec Ideal S512x7168 .i8) (S : Vec Ideal S2x4x224x128 .f32)
    (half m : Fin 2) (b : Fin 16) (c : Fin 256) (n : ℕ) :
    accOf (stateAt X Q S Mxu.init (n + 1)) half m (ix2 b c)
      = ∑ i ∈ Finset.range (n + 1), ∑ k : Fin 256, xOf X i (ix2 b k) * tileW Q S i half m (ix2 k c) := by
  induction n with
  | zero =>
    rw [Finset.sum_range_one, ← pass_apply]
    exact congrFun (accOf_first (xOf X 0) (tileW Q S 0) Mxu.init (fun q r => Mxu.reg_init q r) (fun _ _ _ => rfl) half m) (ix2 b c)
  | succ n ih =>
    rw [Finset.sum_range_succ, ← ih, ← pass_apply]
    exact congrFun (accOf_next (xOf X (n + 1)) (tileW Q S (n + 1)) (stateAt X Q S Mxu.init (n + 1))
      (reg_stateAt X Q S Mxu.init (fun q r => Mxu.reg_init q r) (n + 1)) (live_chunkStep _ _ _) half m) (ix2 b c)

end Cert.Proof.KI

end
-- ==== Proof.Words.lean ====
module

public import Idealize.ShloMosaic.PureOps.Ideal

/-! The bit patterns that the kernel forms from the 16 bits of a scale, field by field against the word's own. -/

@[expose] public section

noncomputable section

namespace Cert.Proof.KI

open Idealize.ShloMosaic

/-- The word moved to the places of a single-precision float's fields. -/
def wordT (h : BitVec 16) : BitVec 32 := (h.signExtend 32) <<< (13#32)

/-- The bits of the float with the word's fraction and its exponent rebased. -/
def wordF (h : BitVec 16) : BitVec 32 := (wordT h &&& 2415919103#32) + 939524096#32

/-- The bits of the smallest normal half-precision float, with the word's sign. -/
def wordOne (h : BitVec 16) : BitVec 32 := (wordT h &&& 2147483648#32) ||| 947912704#32

/-- The fields of the two, against the word's. -/
def fieldsOk (h : BitVec 16) : Bool :=
  (wordF h).extractLsb' 31 1 == h.extractLsb' 15 1
    && ((wordF h).extractLsb' 23 8).toNat == (h.extractLsb' 10 5).toNat + 112
    && ((wordF h).extractLsb' 0 23).toNat == (h.extractLsb' 0 10).toNat * 8192
    && (wordOne h).extractLsb' 31 1 == h.extractLsb' 15 1
    && ((wordOne h).extractLsb' 23 8).toNat == 113
    && ((wordOne h).extractLsb' 0 23).toNat == 0

set_option maxRecDepth 100000 in
/-- The fields are as they should be, for every word. -/
theorem fieldsOk_all : ∀ a b : Fin 256, fieldsOk (BitVec.ofNat 16 (256 * a.val + b.val)) = true := by decide +kernel

/-- So for every word. -/
theorem fieldsOk_word (h : BitVec 16) : fieldsOk h = true := by
  have hl : h.toNat < 65536 := h.isLt
  have := fieldsOk_all ⟨h.toNat / 256, by omega⟩ ⟨h.toNat % 256, by omega⟩
  have e : BitVec.ofNat 16 (256 * (h.toNat / 256) + h.toNat % 256) = h := by
    rw [Nat.div_add_mod]; exact BitVec.ofNat_toNat 16 h |>.trans (BitVec.setWidth_eq h)
  rwa [e] at this

end Cert.Proof.KI

end
-- ==== Proof.Decode.lean ====
module

public import proofs.«01_k».proof.Proof.Words

/-! The kernel's arithmetic reading of the 16 bits of a scale: over the extended reals, the value of the half-precision
float that the bits are, for every word whose exponent field is not all ones. -/

@[expose] public section

noncomputable section

namespace Cert.Proof.KI

open Idealize.ShloMosaic

/-- The kernel's reading of a word. -/
def scaleOfWord (h : BitVec 16) : EReal :=
  Ideal.ofBits .f32 (wordF h) + (min (Ideal.ofBits .f32 0x38800000#32) (max (Ideal.ofBits .f32 0xB8800000#32) (Ideal.ofBits .f32 (wordF h)))
    - Ideal.ofBits .f32 (wordOne h))

/-- The word is that of a finite half-precision float. -/
def FiniteWord (h : BitVec 16) : Prop := (h.extractLsb' 10 5).toNat ≠ 31

/-- A single-precision pattern by its fields, the exponent neither zero nor all ones. -/
theorem ofBits_f32_of {b : BitVec 32} {ex fr : ℕ} (he : (b.extractLsb' 23 8).toNat = ex) (hf : (b.extractLsb' 0 23).toNat = fr)
    (h0 : ex ≠ 0) (h1 : ex ≠ 255) :
    Ideal.ofBits .f32 b = (((if b.extractLsb' 31 1 == 1#1 then (-1 : ℝ) else 1) * ((2 : ℝ) ^ 23 + fr) * (2 : ℝ) ^ ((ex : ℤ) - 150) : ℝ) : EReal) := by
  subst he hf
  show Ideal.ieee 8 23 b = _
  unfold Ideal.ieee
  rw [if_neg (by simpa using h1), if_neg h0]
  refine congrArg _ ?_
  push_cast
  rw [show ((b.extractLsb' 23 8).toNat : ℤ) - 127 - 23 = ((b.extractLsb' 23 8).toNat : ℤ) - 150 by ring]
  norm_num

/-- A half-precision pattern by its fields. -/
theorem ofBits_f16_of {h : BitVec 16} (hf : FiniteWord h) :
    Ideal.ofBits .f16 h = (((if h.extractLsb' 15 1 == 1#1 then (-1 : ℝ) else 1)
      * (if (h.extractLsb' 10 5).toNat = 0 then ((h.extractLsb' 0 10).toNat : ℝ) * (2 : ℝ) ^ (-24 : ℤ)
          else ((2 : ℝ) ^ 10 + (h.extractLsb' 0 10).toNat) * (2 : ℝ) ^ (((h.extractLsb' 10 5).toNat : ℤ) - 25)) : ℝ) : EReal) := by
  show Ideal.ieee 5 10 h = _
  unfold Ideal.ieee
  rw [if_neg (by simpa [FiniteWord] using hf)]
  by_cases h0 : (h.extractLsb' 10 5).toNat = 0
  · rw [if_pos h0, if_pos h0]
    refine congrArg _ ?_
    norm_num
  · rw [if_neg h0, if_neg h0]
    refine congrArg _ ?_
    push_cast
    rw [show ((h.extractLsb' 10 5).toNat : ℤ) - 15 - 10 = ((h.extractLsb' 10 5).toNat : ℤ) - 25 by ring]
    norm_num
    ring_nf

/-- The upper bound of the clip is the smallest normal half-precision float, -/
theorem clip_hi : Ideal.ofBits .f32 0x38800000#32 = (((2 : ℝ) ^ (-14 : ℤ) : ℝ) : EReal) := by
  rw [ofBits_f32_of (ex := 113) (fr := 0) (by decide) (by decide) (by decide) (by decide)]
  refine congrArg _ ?_
  rw [if_neg (by decide)]
  norm_num

/-- and the lower bound its negative. -/
theorem clip_lo : Ideal.ofBits .f32 0xB8800000#32 = ((-(2 : ℝ) ^ (-14 : ℤ) : ℝ) : EReal) := by
  rw [ofBits_f32_of (ex := 113) (fr := 0) (by decide) (by decide) (by decide) (by decide)]
  refine congrArg _ ?_
  rw [if_pos (by decide)]
  norm_num

/-- The arithmetic on the reals: rebased exponent, clip and the subtraction give the half-precision value. -/
theorem decode_real (s : ℝ) (hs : s = 1 ∨ s = -1) (e f : ℕ) (hf : f < 1024) :
    s * ((2 : ℝ) ^ 23 + (f * 8192 : ℕ)) * (2 : ℝ) ^ (((e + 112 : ℕ) : ℤ) - 150)
      + (min ((2 : ℝ) ^ (-14 : ℤ)) (max (-(2 : ℝ) ^ (-14 : ℤ)) (s * ((2 : ℝ) ^ 23 + (f * 8192 : ℕ)) * (2 : ℝ) ^ (((e + 112 : ℕ) : ℤ) - 150)))
        - s * ((2 : ℝ) ^ 23 + (0 : ℕ)) * (2 : ℝ) ^ ((113 : ℤ) - 150))
      = s * (if e = 0 then (f : ℝ) * (2 : ℝ) ^ (-24 : ℤ) else ((2 : ℝ) ^ 10 + f) * (2 : ℝ) ^ ((e : ℤ) - 25)) := by
  have hp : (0 : ℝ) < (2 : ℝ) ^ ((e : ℤ) - 25) := by positivity
  have hF : s * ((2 : ℝ) ^ 23 + (f * 8192 : ℕ)) * (2 : ℝ) ^ (((e + 112 : ℕ) : ℤ) - 150) = s * (((2 : ℝ) ^ 10 + f) * (2 : ℝ) ^ ((e : ℤ) - 25)) := by
    have : (((e + 112 : ℕ) : ℤ) - 150) = ((e : ℤ) - 25) + (-13) := by push_cast; ring
    rw [this, zpow_add₀ (by norm_num)]
    push_cast
    norm_num
    ring
  have hO : s * ((2 : ℝ) ^ 23 + (0 : ℕ)) * (2 : ℝ) ^ ((113 : ℤ) - 150) = s * (2 : ℝ) ^ (-14 : ℤ) := by norm_num; ring
  rw [hF, hO]
  have hfr : (f : ℝ) < 1024 := by exact_mod_cast hf
  have hf0 : (0 : ℝ) ≤ f := Nat.cast_nonneg f
  by_cases h0 : e = 0
  · subst h0
    rw [if_pos rfl]
    have e1 : (2 : ℝ) ^ (((0 : ℕ) : ℤ) - 25) = 2⁻¹ * (2 : ℝ) ^ (-24 : ℤ) := by norm_num
    have e2 : (2 : ℝ) ^ (-14 : ℤ) = 1024 * (2 : ℝ) ^ (-24 : ℤ) := by norm_num
    rw [e1, e2]
    have hq : (0 : ℝ) < (2 : ℝ) ^ (-24 : ℤ) := by positivity
    generalize (2 : ℝ) ^ (-24 : ℤ) = q at hq
    rcases hs with rfl | rfl
    · rw [max_eq_right (by nlinarith), min_eq_right (by nlinarith)]; ring
    · rw [max_eq_right (by nlinarith), min_eq_right (by nlinarith)]; ring
  · rw [if_neg h0]
    have hge : (2 : ℝ) ^ (-14 : ℤ) ≤ ((2 : ℝ) ^ 10 + f) * (2 : ℝ) ^ ((e : ℤ) - 25) := by
      have h1 : (2 : ℝ) ^ (-24 : ℤ) ≤ (2 : ℝ) ^ ((e : ℤ) - 25) := zpow_le_zpow_right₀ (by norm_num) (by omega)
      have e2 : (2 : ℝ) ^ (-14 : ℤ) = 1024 * (2 : ℝ) ^ (-24 : ℤ) := by norm_num
      rw [e2]
      have hq : (0 : ℝ) < (2 : ℝ) ^ (-24 : ℤ) := by positivity
      nlinarith
    have hq : (0 : ℝ) < (2 : ℝ) ^ (-14 : ℤ) := by positivity
    generalize (2 : ℝ) ^ (-14 : ℤ) = q at hge hq
    generalize ((2 : ℝ) ^ 10 + f) * (2 : ℝ) ^ ((e : ℤ) - 25) = v at hge
    rcases hs with rfl | rfl
    · rw [max_eq_right (by linarith), min_eq_left (by linarith)]; ring
    · rw [max_eq_left (by linarith), min_eq_right (by linarith)]; ring

/-- The kernel reads a finite word as the half-precision float that it is. -/
theorem scaleOfWord_eq {h : BitVec 16} (hf : FiniteWord h) : scaleOfWord h = Ideal.ofBits .f16 h := by
  have hk := fieldsOk_word h
  simp only [fieldsOk, Bool.and_eq_true, beq_iff_eq] at hk
  obtain ⟨⟨⟨⟨⟨s1, e1⟩, f1⟩, s2⟩, e2⟩, f2⟩ := hk
  have he : (h.extractLsb' 10 5).toNat < 32 := (h.extractLsb' 10 5).isLt
  have hfr : (h.extractLsb' 0 10).toNat < 1024 := (h.extractLsb' 0 10).isLt
  have hne : (h.extractLsb' 10 5).toNat ≠ 31 := hf
  unfold scaleOfWord
  rw [clip_hi, clip_lo, ofBits_f32_of e1 f1 (by omega) (by omega), ofBits_f32_of e2 f2 (by omega) (by omega), s1, s2, ofBits_f16_of hf,
    ← EReal.coe_strictMono.monotone.map_max, ← EReal.coe_strictMono.monotone.map_min, ← EReal.coe_sub, ← EReal.coe_add]
  refine congrArg _ (decode_real _ ?_ _ _ hfr)
  by_cases hb : (h.extractLsb' 15 1 == 1#1) = true
  · right; rw [if_pos hb]
  · left; rw [if_neg hb]

end Cert.Proof.KI

end
-- ==== Proof.Tiles.lean ====
module

public import proofs.«01_k».proof.Proof.Body
public import proofs.«01_k».proof.Proof.Decode

/-! One entry of the scale buffer and of a tile of weights over the extended reals: a code times the reading of its
quantisation block's word. -/

@[expose] public section

noncomputable section

namespace Cert.Proof.KI

open Cert.KernelIdeal Cert.KernelIdeal.Gen
open Idealize.ShloMosaic Idealize.ShloMosaic.TcCoe Idealize.ShloMosaic.ValueIdx

/-- The kernel's reading of a word, in the operations of any reading of floats. -/
def decodeWord {F : FTy → Type} [FloatOps F] (h : BitVec 16) : F .f32 :=
  FloatOps.addf (FloatOps.ofBits .f32 (wordF h)) (FloatOps.subf (FloatOps.minimumf (FloatOps.ofBits .f32 0x38800000#32)
    (FloatOps.maximumf (FloatOps.ofBits .f32 0xB8800000#32) (FloatOps.ofBits .f32 (wordF h)))) (FloatOps.ofBits .f32 (wordOne h)))

/-- The decoded and transposed words, entry by entry. -/
theorem decoded_entry {F : FTy → Type} [FloatOps F] (v : Vec F S512x224 .i16) (x : S224x512.Idx) :
    k0_pay263 (F := F) v x = decodeWord (transpose S224x512 [1, 0] v transposes_S512x224_p1_0_S224x512 x) := rfl

/-- The decoded and transposed words of the gate matrix, at an index. -/
theorem decoded_gate (v : Vec Ideal S512x224 .i16) (a : Fin 224) (b : Fin 512) :
    k0_pay263 (F := Ideal) v (ix2 a b) = scaleOfWord (v (ix2 b a)) := by
  have h : transpose S224x512 [1, 0] v transposes_S512x224_p1_0_S224x512 (ix2 a b) = v (ix2 b a) := transpose_ix2_apply v _ a b
  rw [decoded_entry, h]
  rfl

/-- The decoded and transposed words of the up matrix, at an index. -/
theorem decoded_up (v : Vec Ideal S512x224 .i16) (a : Fin 224) (b : Fin 512) :
    k0_pay269 (F := Ideal) v (ix2 a b) = scaleOfWord (v (ix2 b a)) := decoded_gate v a b

/-- What the scale buffer holds at an index. -/
def scaleVal (d0 d1 : Vec Ideal S512x224 .i16) (y : S2x4x224x128.Idx) : EReal :=
  scaleOfWord ((![d0, d1] : Fin 2 → Vec Ideal S512x224 .i16) (⟨(y 0).val, (y 0).isLt⟩ : Fin 2)
    (ix2 (⟨128 * (y 1).val + (y 3).val, by have h1 : (y 1).val < 4 := (y 1).isLt; have h3 : (y 3).val < 128 := (y 3).isLt; omega⟩ : Fin 512)
      (⟨(y 2).val, (y 2).isLt⟩ : Fin 224)))

/-- A group of 128 columns cut out of the decoded words and stored. -/
theorem group_apply (D : FVec Ideal S224x512 .f32) (j : Fin 4) (h : S224x512.Slices ![0, 128 * j.val] S224x128)
    (x : S1x1x224x128.Idx) :
    shapeCast S1x1x224x128 (extractStridedSlice S224x128 ![0, 128 * j.val] D h) shapeCasts_S224x128_S1x1x224x128 x
      = D (ix2 (⟨(x 2).val, (x 2).isLt⟩ : Fin 224)
          (⟨128 * j.val + (x 3).val, by have h3 : (x 3).val < 128 := (x 3).isLt; omega⟩ : Fin 512)) := by
  have h0 : (x 0).val < 1 := (x 0).isLt
  have h1 : (x 1).val < 1 := (x 1).isLt
  refine (shapeCast_apply _ _ x (ix2 (⟨(x 2).val, (x 2).isLt⟩ : Fin 224) (⟨(x 3).val, (x 3).isLt⟩ : Fin 128)) ?_).trans ?_
  · rw [Shape.rowMajor_val_two, Shape.rowMajor_val_four]
    show (x 2).val * 128 + (x 3).val = (((x 0).val * 1 + (x 1).val) * 224 + (x 2).val) * 128 + (x 3).val
    omega
  · refine extractStridedSlice_apply _ _ _ _ _ fun a => ?_
    match a with
    | ⟨0, _⟩ => exact (Nat.zero_add _).symm
    | ⟨1, _⟩ => rfl

/-- A stored group is the buffer's contents in its box. -/
theorem group_piece (d0 d1 : Vec Ideal S512x224 .i16) (D : FVec Ideal S224x512 .f32) (m : Fin 2) (j : Fin 4)
    (hD : ∀ a b, D (ix2 a b) = scaleOfWord ((![d0, d1] : Fin 2 → Vec Ideal S512x224 .i16) m (ix2 b a)))
    (h : S224x512.Slices ![0, 128 * j.val] S224x128)
    (inb : ∀ a, (![m.val, j.val, 0, 0] : Fin 4 → ℕ) a + S1x1x224x128.size a ≤ S2x4x224x128.size a) (x : S1x1x224x128.Idx) :
    shapeCast S1x1x224x128 (extractStridedSlice S224x128 ![0, 128 * j.val] D h) shapeCasts_S224x128_S1x1x224x128 x
      = scaleVal d0 d1 ((Rect.unit (s := S2x4x224x128) ![m.val, j.val, 0, 0] S1x1x224x128.size inb).emb x) := by
  have h0 : (x 0).val < 1 := (x 0).isLt
  have h1 : (x 1).val < 1 := (x 1).isLt
  rw [group_apply, hD]
  unfold scaleVal
  have em : (⟨((Rect.unit (s := S2x4x224x128) ![m.val, j.val, 0, 0] S1x1x224x128.size inb).emb x 0).val,
      ((Rect.unit (s := S2x4x224x128) ![m.val, j.val, 0, 0] S1x1x224x128.size inb).emb x 0).isLt⟩ : Fin 2) = m :=
    Fin.ext (by show m.val + 1 * (x 0).val = m.val; omega)
  rw [em]
  refine congrArg _ (congrArg _ (funext fun a => Fin.ext ?_))
  match a with
  | ⟨0, _⟩ => show 128 * j.val + (x 3).val = 128 * (j.val + 1 * (x 1).val) + (0 + 1 * (x 3).val); omega
  | ⟨1, _⟩ => show (x 2).val = 0 + 1 * (x 2).val; omega

/-- The scale buffer at an index. -/
theorem scaleBuf_apply (d0 d1 : Vec Ideal S512x224 .i16) (y : S2x4x224x128.Idx) : scaleBuf (F := Ideal) d0 d1 y = scaleVal d0 d1 y := by
  refine View.canon_apply_of_pieces (scaleVal d0 d1) _ ?_ y (scale_cover d0 d1 y)
  have hg : ∀ a b, k0_pay263 (F := Ideal) d0 (ix2 a b) = scaleOfWord ((![d0, d1] : Fin 2 → Vec Ideal S512x224 .i16) 0 (ix2 b a)) := decoded_gate d0
  have hu : ∀ a b, k0_pay269 (F := Ideal) d1 (ix2 a b) = scaleOfWord ((![d0, d1] : Fin 2 → Vec Ideal S512x224 .i16) 1 (ix2 b a)) := decoded_up d1
  intro p hp
  simp only [scalePieces, List.mem_cons, List.not_mem_nil, or_false] at hp
  rcases hp with rfl | rfl | rfl | rfl | rfl | rfl | rfl | rfl
  · exact group_piece d0 d1 _ 1 3 hu slices_S224x512_o0_384_S224x128 inb_S2x4x224x128_S1x1x224x128_1_3_0_0
  · exact group_piece d0 d1 _ 1 2 hu slices_S224x512_o0_256_S224x128 inb_S2x4x224x128_S1x1x224x128_1_2_0_0
  · exact group_piece d0 d1 _ 1 1 hu slices_S224x512_o0_128_S224x128 inb_S2x4x224x128_S1x1x224x128_1_1_0_0
  · exact group_piece d0 d1 _ 1 0 hu slices_S224x512_o0_0_S224x128 inb_S2x4x224x128_S1x1x224x128_1_0_0_0
  · exact group_piece d0 d1 _ 0 3 hg slices_S224x512_o0_384_S224x128 inb_S2x4x224x128_S1x1x224x128_0_3_0_0
  · exact group_piece d0 d1 _ 0 2 hg slices_S224x512_o0_256_S224x128 inb_S2x4x224x128_S1x1x224x128_0_2_0_0
  · exact group_piece d0 d1 _ 0 1 hg slices_S224x512_o0_128_S224x128 inb_S2x4x224x128_S1x1x224x128_0_1_0_0
  · exact group_piece d0 d1 _ 0 0 hg slices_S224x512_o0_0_S224x128 inb_S2x4x224x128_S1x1x224x128_0_0_0_0

/-- A group of weights at an index: the code times its column's scale. -/
theorem cell_apply (q : Vec Ideal S1x1x32x128 .i8) (d : Vec Ideal S1x1x1x128 .f32) (r : Fin 32) (l : Fin 128) :
    cell (F := Ideal) q d (ix2 r l) = (((q (ix4 (0 : Fin 1) (0 : Fin 1) r l)).toInt : ℝ) : EReal) * d (ix4 (0 : Fin 1) (0 : Fin 1) (0 : Fin 1) l) := by
  have hq : (shapeCast S32x128 q shapeCasts_S1x1x32x128_S32x128 : IVec S32x128 8) (ix2 r l) = q (ix4 (0 : Fin 1) (0 : Fin 1) r l) :=
    shapeCast_apply _ _ _ _ (by rw [Shape.rowMajor_val_two, Shape.rowMajor_val_four]; simp)
  have hd : (broadcastTo S32x128 (shapeCast S1x128 d shapeCasts_S1x1x1x128_S1x128) broadcasts_S1x128_S32x128 : FVec Ideal S32x128 .f32) (ix2 r l)
      = d (ix4 (0 : Fin 1) (0 : Fin 1) (0 : Fin 1) l) :=
    (broadcastTo_1b_ab_apply _ broadcasts_S1x128_S32x128 r l).trans
      (shapeCast_apply _ _ _ _ (by rw [Shape.rowMajor_val_two, Shape.rowMajor_val_four]; simp))
  rw [← hq, ← hd]
  rfl

/-- Two groups side by side, at an index. -/
theorem rowOf_apply (q : Fin 2 → Vec Ideal S1x1x32x128 .i8) (d : Fin 2 → Vec Ideal S1x1x1x128 .f32) (r : Fin 32) (c : Fin 256) :
    rowOf (F := Ideal) q d (ix2 r c) = cell (q ⟨c.val / 128, by omega⟩) (d ⟨c.val / 128, by omega⟩) (ix2 r (⟨c.val % 128, by omega⟩ : Fin 128)) := by
  unfold rowOf
  refine concatenate_ofFn_apply (t := S32x256) (s₁ := S32x128) (1 : Fin 2) (fun n : Fin 2 => cell (F := Ideal) (q n) (d n))
    concatenates_S32x128_S32x128_S32x256_d1 rfl 128 rfl (ix2 r c)
    ⟨c.val / 128, by omega⟩ rfl (ix2 r (⟨c.val % 128, by omega⟩ : Fin 128)) rfl fun b hb => ?_
  match b with
  | ⟨0, _⟩ => rfl
  | ⟨1, _⟩ => exact absurd rfl hb

/-- Eight rows stacked, at an index. -/
theorem tileOf_apply (q : Fin 8 → Fin 2 → Vec Ideal S1x1x32x128 .i8) (d : Fin 8 → Fin 2 → Vec Ideal S1x1x1x128 .f32) (k c : Fin 256) :
    tileOf (F := Ideal) q d (ix2 k c) = rowOf (q ⟨k.val / 32, by omega⟩) (d ⟨k.val / 32, by omega⟩) (ix2 (⟨k.val % 32, by omega⟩ : Fin 32) c) := by
  unfold tileOf
  refine concatenate_ofFn_apply (t := S256x256) (s₁ := S32x256) (0 : Fin 2) (fun n : Fin 8 => rowOf (F := Ideal) (q n) (d n))
    concatenates_S32x256_S32x256_S32x256_S32x256_S32x256_S32x256_S32x256_S32x256_S256x256_d0 rfl 32 rfl (ix2 k c)
    ⟨k.val / 32, by omega⟩ rfl (ix2 (⟨k.val % 32, by omega⟩ : Fin 32) c) rfl fun b hb => ?_
  match b with
  | ⟨0, _⟩ => exact absurd rfl hb
  | ⟨1, _⟩ => rfl

/-- A dequantised weight of a block: row `r` of its 512, column `k`. -/
def weight (Q : Vec Ideal S512x7168 .i8) (d : Vec Ideal S512x224 .i16) (r : Fin 512) (k : Fin 7168) : EReal :=
  (((Q (ix2 r k)).toInt : ℝ) : EReal) * scaleOfWord (d (ix2 r (⟨k.val / 32, by omega⟩ : Fin 224)))

/-- A tile's entry is a weight. -/
theorem tileW_apply (Q : Fin 2 → Vec Ideal S512x7168 .i8) (d : Fin 2 → Vec Ideal S512x224 .i16) (n : ℕ) (half m : Fin 2) (k c : Fin 256) :
    tileW (F := Ideal) Q (scaleBuf (d 0) (d 1)) n half m (ix2 k c)
      = weight (Q m) (d m) (⟨256 * half.val + c.val, by omega⟩ : Fin 512) (⟨256 * ch n + k.val, by have := ch_lt n; omega⟩ : Fin 7168) := by
  have hch := ch_lt n
  unfold tileW
  rw [tileOf_apply, rowOf_apply, cell_apply]
  unfold codeOf scaleOf weight
  rw [scaleBuf_apply]
  unfold scaleVal
  have hm : (![d 0, d 1] : Fin 2 → Vec Ideal S512x224 .i16) m = d m := by match m with | 0 => rfl | 1 => rfl
  refine congr (congrArg _ (congrArg _ (congrArg _ (congrArg _ (congrArg (Q m) (funext fun a => Fin.ext ?_))))))
    (congrArg _ ((congrFun hm _).trans (congrArg (d m) (funext fun a => Fin.ext ?_))))
  · match a with
    | ⟨0, _⟩ => show 256 * half.val + 128 * (c.val / 128) + c.val % 128 = 256 * half.val + c.val; omega
    | ⟨1, _⟩ => show 256 * ch n + 32 * (k.val / 32) + k.val % 32 = 256 * ch n + k.val; omega
  · match a with
    | ⟨0, _⟩ => show 128 * (2 * half.val + c.val / 128) + c.val % 128 = 256 * half.val + c.val; omega
    | ⟨1, _⟩ => show 8 * ch n + k.val / 32 = (256 * ch n + k.val) / 32; omega

end Cert.Proof.KI

end
-- ==== Proof.Block.lean ====
module

public import proofs.«01_k».proof.Proof.Acc
public import proofs.«01_k».proof.Proof.Tiles

/-! What the kernel leaves in a block of the output over the extended reals: the gated product of two dot products over all
7168 columns. -/

@[expose] public section

noncomputable section

namespace Cert.Proof.KI

open Cert.KernelIdeal Cert.KernelIdeal.Gen
open Idealize.ShloMosaic Idealize.ShloMosaic.TcCoe Idealize.ShloMosaic.ValueIdx
open scoped BigOperators

/-- A sum over the 7168 columns is the sum over the 28 chunks of the sums over their 256 columns. -/
theorem sum_chunks (f : Fin 7168 → EReal) :
    ∑ i ∈ Finset.range 28, ∑ k : Fin 256, f (⟨256 * ch i + k.val, by have := ch_lt i; omega⟩ : Fin 7168) = ∑ k : Fin 7168, f k := by
  rw [Finset.sum_range, ← Fintype.sum_prod_type']
  refine Fintype.sum_equiv (finProdFinEquiv (m := 28) (n := 256)) _ _ fun p => congrArg f (Fin.ext ?_)
  show 256 * ch p.1.val + p.2.val = p.2.val + 256 * p.1.val
  rw [ch_of_lt p.1.isLt]
  omega

/-- The dot product of a row of activations with a row of dequantised weights. -/
def dotVal (X : Vec Ideal S16x7168 .bf16) (Q : Vec Ideal S512x7168 .i8) (d : Vec Ideal S512x224 .i16) (b : Fin 16) (r : Fin 512) : EReal :=
  ∑ k : Fin 7168, X (ix2 b k) * weight Q d r k

/-- The gated product: the gate's value times its logistic times the other's value. -/
def gated (g u : EReal) : EReal := g * Ideal.logistic g * u

/-- Reading a whole block of words. -/
theorem ld_words (d : Vec Ideal S512x224 .i16) : View.ld d rWords = d :=
  funext fun x => congrArg d (funext fun a => Fin.ext (by
    match a with
    | ⟨0, _⟩ => show 0 + 1 * (x 0).val = (x 0).val; omega
    | ⟨1, _⟩ => show 0 + 1 * (x 1).val = (x 1).val; omega))

/-- After the last chunk an accumulator holds the dot products of its half's rows. -/
theorem accOf_last (x1 : Vec Ideal S16x7168 .bf16) (x2 : Vec Ideal S512x7168 .i8) (x3 : Vec Ideal S512x224 .i16)
    (x4 : Vec Ideal S512x7168 .i8) (x5 : Vec Ideal S512x224 .i16) (half m : Fin 2) (b : Fin 16) (c : Fin 256) :
    accOf (lastState (F := Ideal) x1 x2 x3 x4 x5) half m (ix2 b c)
      = dotVal x1 ((![x2, x4] : Fin 2 → Vec Ideal S512x7168 .i8) m) ((![x3, x5] : Fin 2 → Vec Ideal S512x224 .i16) m) b
          (⟨256 * half.val + c.val, by omega⟩ : Fin 512) := by
  unfold lastState
  rw [ld_words, ld_words]
  refine (accOf_stateAt x1 _ _ half m b c 27).trans ?_
  unfold dotVal
  refine Eq.trans ?_ (sum_chunks _)
  refine Finset.sum_congr rfl fun i _ => Finset.sum_congr rfl fun k _ => ?_
  rw [show scaleBuf (F := Ideal) x3 x5 = scaleBuf ((![x3, x5] : Fin 2 → Vec Ideal S512x224 .i16) 0) ((![x3, x5] : Fin 2 → Vec Ideal S512x224 .i16) 1) from rfl,
    tileW_apply]
  rfl

/-- What the output block holds at an index. -/
def blockVal (x1 : Vec Ideal S16x7168 .bf16) (x2 : Vec Ideal S512x7168 .i8) (x3 : Vec Ideal S512x224 .i16)
    (x4 : Vec Ideal S512x7168 .i8) (x5 : Vec Ideal S512x224 .i16) (y : S16x512.Idx) : EReal :=
  gated (dotVal x1 x2 x3 (⟨(y 0).val, (y 0).isLt⟩ : Fin 16) (⟨(y 1).val, (y 1).isLt⟩ : Fin 512))
    (dotVal x1 x4 x5 (⟨(y 0).val, (y 0).isLt⟩ : Fin 16) (⟨(y 1).val, (y 1).isLt⟩ : Fin 512))

/-- A half's store is the block's contents in its box. -/
theorem half_piece (x1 : Vec Ideal S16x7168 .bf16) (x2 : Vec Ideal S512x7168 .i8) (x3 : Vec Ideal S512x224 .i16)
    (x4 : Vec Ideal S512x7168 .i8) (x5 : Vec Ideal S512x224 .i16) (half : Fin 2)
    (inb : ∀ a, (![0, 256 * half.val] : Fin 2 → ℕ) a + S16x256.size a ≤ S16x512.size a) (x : S16x256.Idx) :
    k0_pay1 (F := Ideal) (accOf (lastState (F := Ideal) x1 x2 x3 x4 x5) half 0) (accOf (lastState (F := Ideal) x1 x2 x3 x4 x5) half 1) x
      = blockVal x1 x2 x3 x4 x5 ((Rect.unit (s := S16x512) ![0, 256 * half.val] S16x256.size inb).emb x) := by
  have e : x = ix2 (⟨(x 0).val, (x 0).isLt⟩ : Fin 16) (⟨(x 1).val, (x 1).isLt⟩ : Fin 256) := eq_ix2 x
  have hg := accOf_last x1 x2 x3 x4 x5 half 0 (⟨(x 0).val, (x 0).isLt⟩ : Fin 16) (⟨(x 1).val, (x 1).isLt⟩ : Fin 256)
  have hu := accOf_last x1 x2 x3 x4 x5 half 1 (⟨(x 0).val, (x 0).isLt⟩ : Fin 16) (⟨(x 1).val, (x 1).isLt⟩ : Fin 256)
  rw [← e] at hg hu
  have hp : k0_pay1 (F := Ideal) (accOf (lastState (F := Ideal) x1 x2 x3 x4 x5) half 0) (accOf (lastState (F := Ideal) x1 x2 x3 x4 x5) half 1) x
      = gated (accOf (lastState (F := Ideal) x1 x2 x3 x4 x5) half 0 x) (accOf (lastState (F := Ideal) x1 x2 x3 x4 x5) half 1 x) := rfl
  rw [hp, hg, hu]
  unfold blockVal
  have e0 : (⟨((Rect.unit (s := S16x512) ![0, 256 * half.val] S16x256.size inb).emb x 0).val,
      ((Rect.unit (s := S16x512) ![0, 256 * half.val] S16x256.size inb).emb x 0).isLt⟩ : Fin 16) = ⟨(x 0).val, (x 0).isLt⟩ :=
    Fin.ext (by show 0 + 1 * (x 0).val = (x 0).val; omega)
  have e1 : (⟨((Rect.unit (s := S16x512) ![0, 256 * half.val] S16x256.size inb).emb x 1).val,
      ((Rect.unit (s := S16x512) ![0, 256 * half.val] S16x256.size inb).emb x 1).isLt⟩ : Fin 512)
        = ⟨256 * half.val + (x 1).val, by have : (x 1).val < 256 := (x 1).isLt; omega⟩ :=
    Fin.ext (by show 256 * half.val + 1 * (x 1).val = 256 * half.val + (x 1).val; omega)
  rw [e0, e1]
  rfl

/-- The output block at an index. -/
theorem outBlock_apply (x1 : Vec Ideal S16x7168 .bf16) (x2 : Vec Ideal S512x7168 .i8) (x3 : Vec Ideal S512x224 .i16)
    (x4 : Vec Ideal S512x7168 .i8) (x5 : Vec Ideal S512x224 .i16) (y : S16x512.Idx) :
    outBlock (F := Ideal) x1 x2 x3 x4 x5 y = blockVal x1 x2 x3 x4 x5 y := by
  unfold outBlock outUnits outOf
  refine View.canon_apply_of_pieces (Val := Elt Ideal) (blockVal x1 x2 x3 x4 x5) _ ?_ y (out_cover _ _ _ _ y)
  intro p hp
  simp only [outPieces, List.mem_cons, List.not_mem_nil, or_false] at hp
  rcases hp with rfl | rfl
  · exact half_piece x1 x2 x3 x4 x5 1 inb_S16x512_S16x256_0_256
  · exact half_piece x1 x2 x3 x4 x5 0 inb_S16x512_S16x256_0_0

end Cert.Proof.KI

end
-- ==== Proof.Array.lean ====
module

public import proofs.«01_k».proof.Proof.Block
public import proofs.«01_k».proof.Proof.Run
public import Idealize.ShloMosaic.Lib.Pipeline.Value

/-! What the kernel's run leaves in the result over the extended reals: the blocks put together over the grid, as one
function of the arguments. -/

@[expose] public section

noncomputable section

namespace Cert.Proof.KI

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- Where the windows stand at a point: block `t` of the rows of the matrices and of the columns of the output. -/
theorem index_facts : ∀ t : Fin cfg0.N, win0_0.index t 0 = 0 ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = t.val :=
  (by decide +kernel : ∀ t : Fin grid0.N, win0_0.index t 0 = 0 ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = 0 ∧ win0_5.index t 1 = t.val)

/-- There are forty points. -/
theorem point_lt (t : Fin cfg0.N) : t.val < 40 := lt_of_lt_of_eq t.isLt N_0

/-- A row of a block is a row of the matrix. -/
abbrev rowAt (t : Fin cfg0.N) (r : Fin 512) : Fin 20480 := ⟨512 * t.val + r.val, by have := point_lt t; omega⟩

/-- Dropping the middle axis. -/
theorem drop_axis (X : Vec Ideal S16x1x7168 .bf16) (b : Fin 16) (k : Fin 7168) :
    shapeCast S16x7168 X shapeCasts_S16x1x7168_S16x7168 (ix2 b k) = X (ix3 b (0 : Fin 1) k) :=
  shapeCast_apply _ _ _ _ (by rw [Shape.rowMajor_val_two, Shape.rowMajor_val_three]; simp)

/-- Putting it back. -/
theorem add_axis (Y : S16x20480.Idx → EReal) (y : S16x1x20480.Idx) :
    shapeCast S16x1x20480 Y shapeCasts_S16x20480_S16x1x20480 y = Y (ix2 (⟨(y 0).val, (y 0).isLt⟩ : Fin 16) (⟨(y 2).val, (y 2).isLt⟩ : Fin 20480)) := by
  refine shapeCast_apply _ _ y _ ?_
  have h1 : (y 1).val < 1 := (y 1).isLt
  rw [Shape.rowMajor_val_two, Shape.rowMajor_val_three]
  show (y 0).val * 20480 + (y 2).val = ((y 0).val * 1 + (y 1).val) * 20480 + (y 2).val
  omega

/-- The activations the region finds are the argument's, one axis fewer. -/
theorem entry_x (c : Dev nD) (b : Fin 16) (k : Fin 7168) :
    V m c main_v0 (ix2 b k) = m ((c : Thread nD τ).loc main_arg0) (ix3 b (0 : Fin 1) k) := by
  have h : V m c main_v0 = shapeCast S16x7168 (m ((c : Thread nD τ).loc main_arg0)) shapeCasts_S16x1x7168_S16x7168 := by
    show StableHlo.after (List.flatten [hostOps0]) (fun b => m (c, b)) (Proc.devRef .tc main_v0) = _
    simp only [hostOps0, List.flatten_cons, List.flatten_nil, List.append_nil, StableHlo.after_cons, StableHlo.after_nil]
    exact (StableHlo.reshape_result (Val := Elt Ideal) main_arg0 main_v0 rfl shapeCasts_S16x1x7168_S16x7168 _ _ (fun b => m (c, b))).trans rfl
  rw [h]
  exact drop_axis _ b k

/-- A point's block of the activations is all of them. -/
theorem block_x (c : Dev nD) (t : Fin cfg0.N) (b : Fin 16) (k : Fin 7168) :
    iblk m c 0 t (ix2 b k) = m ((c : Thread nD τ).loc main_arg0) (ix3 b (0 : Fin 1) k) := by
  refine Eq.trans ?_ (entry_x m c b k)
  obtain ⟨h0, h1, -⟩ := index_facts t
  refine congrArg (V m c main_v0) (funext fun a => Fin.ext ?_)
  match a with
  | ⟨0, _⟩ => show win0_0.index t 0 * 16 + 1 * b.val = b.val; rw [h0]; omega
  | ⟨1, _⟩ => show win0_0.index t 1 * 7168 + 1 * k.val = k.val; rw [h1]; omega

/-- A point's block of the gate's codes is its 512 rows. -/
theorem block_gate (c : Dev nD) (t : Fin cfg0.N) (r : Fin 512) (k : Fin 7168) :
    iblk m c 1 t (ix2 r k) = m ((c : Thread nD τ).loc main_arg1) (ix2 (rowAt t r) k) := by
  refine Eq.trans ?_ (congrFun (V_main_arg1 m c) _)
  obtain ⟨-, -, h0, h1, -⟩ := index_facts t
  refine congrArg (V m c main_arg1) (funext fun a => Fin.ext ?_)
  match a with
  | ⟨0, _⟩ => show win0_1.index t 0 * 512 + 1 * r.val = 512 * t.val + r.val; rw [h0]; omega
  | ⟨1, _⟩ => show win0_1.index t 1 * 7168 + 1 * k.val = k.val; rw [h1]; omega

/-- Of the gate's scale words, the same rows. -/
theorem block_gate_scale (c : Dev nD) (t : Fin cfg0.N) (r : Fin 512) (k : Fin 224) :
    iblk m c 2 t (ix2 r k) = m ((c : Thread nD τ).loc main_arg2) (ix2 (rowAt t r) k) := by
  refine Eq.trans ?_ (congrFun (V_main_arg2 m c) _)
  obtain ⟨-, -, -, -, h0, h1, -⟩ := index_facts t
  refine congrArg (V m c main_arg2) (funext fun a => Fin.ext ?_)
  match a with
  | ⟨0, _⟩ => show win0_2.index t 0 * 512 + 1 * r.val = 512 * t.val + r.val; rw [h0]; omega
  | ⟨1, _⟩ => show win0_2.index t 1 * 224 + 1 * k.val = k.val; rw [h1]; omega

/-- Of the up matrix's codes, the same rows. -/
theorem block_up (c : Dev nD) (t : Fin cfg0.N) (r : Fin 512) (k : Fin 7168) :
    iblk m c 3 t (ix2 r k) = m ((c : Thread nD τ).loc main_arg3) (ix2 (rowAt t r) k) := by
  refine Eq.trans ?_ (congrFun (V_main_arg3 m c) _)
  obtain ⟨-, -, -, -, -, -, h0, h1, -⟩ := index_facts t
  refine congrArg (V m c main_arg3) (funext fun a => Fin.ext ?_)
  match a with
  | ⟨0, _⟩ => show win0_3.index t 0 * 512 + 1 * r.val = 512 * t.val + r.val; rw [h0]; omega
  | ⟨1, _⟩ => show win0_3.index t 1 * 7168 + 1 * k.val = k.val; rw [h1]; omega

/-- And of its scale words. -/
theorem block_up_scale (c : Dev nD) (t : Fin cfg0.N) (r : Fin 512) (k : Fin 224) :
    iblk m c 4 t (ix2 r k) = m ((c : Thread nD τ).loc main_arg4) (ix2 (rowAt t r) k) := by
  refine Eq.trans ?_ (congrFun (V_main_arg4 m c) _)
  obtain ⟨-, -, -, -, -, -, -, -, h0, h1, -⟩ := index_facts t
  refine congrArg (V m c main_arg4) (funext fun a => Fin.ext ?_)
  match a with
  | ⟨0, _⟩ => show win0_4.index t 0 * 512 + 1 * r.val = 512 * t.val + r.val; rw [h0]; omega
  | ⟨1, _⟩ => show win0_4.index t 1 * 224 + 1 * k.val = k.val; rw [h1]; omega

/-- The dot product of a row of activations with row `r` of a dequantised matrix, the words read by `read`. -/
def rowDot (read : BitVec 16 → EReal) (X : Vec Ideal S16x1x7168 .bf16) (Q : Vec Ideal S20480x7168 .i8) (d : Vec Ideal S20480x224 .i16)
    (b : Fin 16) (r : Fin 20480) : EReal :=
  ∑ k : Fin 7168, X (ix3 b (0 : Fin 1) k) * ((((Q (ix2 r k)).toInt : ℝ) : EReal) * read (d (ix2 r (⟨k.val / 32, by omega⟩ : Fin 224))))

/-- The gated linear unit at an output, the words read by `read`. -/
def unitVal (read : BitVec 16 → EReal) (X : Vec Ideal S16x1x7168 .bf16) (Qg : Vec Ideal S20480x7168 .i8) (dg : Vec Ideal S20480x224 .i16)
    (Qu : Vec Ideal S20480x7168 .i8) (du : Vec Ideal S20480x224 .i16) (b : Fin 16) (r : Fin 20480) : EReal :=
  gated (rowDot read X Qg dg b r) (rowDot read X Qu du b r)

/-- The result before its last reshape. -/
def arrayVal (c : Dev nD) (i : S16x20480.Idx) : EReal :=
  unitVal scaleOfWord (m ((c : Thread nD τ).loc main_arg0)) (m ((c : Thread nD τ).loc main_arg1)) (m ((c : Thread nD τ).loc main_arg2))
    (m ((c : Thread nD τ).loc main_arg3)) (m ((c : Thread nD τ).loc main_arg4)) (⟨(i 0).val, (i 0).isLt⟩ : Fin 16) (⟨(i 1).val, (i 1).isLt⟩ : Fin 20480)

/-- A block's dot products with the gate matrix are rows' of the whole. -/
theorem dot_gate (c : Dev nD) (t : Fin cfg0.N) (b : Fin 16) (r : Fin 512) :
    dotVal (iblk m c 0 t) (iblk m c 1 t) (iblk m c 2 t) b r
      = rowDot scaleOfWord (m ((c : Thread nD τ).loc main_arg0)) (m ((c : Thread nD τ).loc main_arg1)) (m ((c : Thread nD τ).loc main_arg2)) b (rowAt t r) := by
  unfold dotVal rowDot weight
  refine Finset.sum_congr rfl fun k _ => ?_
  rw [block_x, block_gate, block_gate_scale]

/-- And with the up matrix. -/
theorem dot_up (c : Dev nD) (t : Fin cfg0.N) (b : Fin 16) (r : Fin 512) :
    dotVal (iblk m c 0 t) (iblk m c 3 t) (iblk m c 4 t) b r
      = rowDot scaleOfWord (m ((c : Thread nD τ).loc main_arg0)) (m ((c : Thread nD τ).loc main_arg3)) (m ((c : Thread nD τ).loc main_arg4)) b (rowAt t r) := by
  unfold dotVal rowDot weight
  refine Finset.sum_congr rfl fun k _ => ?_
  rw [block_x, block_up, block_up_scale]

/-- What a point writes back is its block of the whole. -/
theorem flushed_eq (c : Dev nD) (t : Fin cfg0.N) :
    (dats (F := Ideal) m 0 c).flushed 5 t = (win0_5.blk t).view.read (Elt Ideal) (arrayVal m c) := by
  show (cfg0.win 5).cut (grid0.coords t) ((dats m 0 c).after 5 t) = _
  rw [after0_5]
  funext y
  refine (outBlock_apply (iblk m c 0 t) (iblk m c 1 t) (iblk m c 2 t) (iblk m c 3 t) (iblk m c 4 t) y).trans ?_
  unfold blockVal
  rw [dot_gate, dot_up]
  obtain ⟨-, -, -, -, -, -, -, -, -, -, h0, h1⟩ := index_facts t
  show _ = arrayVal m c ((win0_5.blk t).view.emb y)
  unfold arrayVal unitVal
  have e0 : (⟨((win0_5.blk t).view.emb y 0).val, ((win0_5.blk t).view.emb y 0).isLt⟩ : Fin 16) = ⟨(y 0).val, (y 0).isLt⟩ :=
    Fin.ext (by show win0_5.index t 0 * 16 + 1 * (y 0).val = (y 0).val; rw [h0]; omega)
  have e1 : (⟨((win0_5.blk t).view.emb y 1).val, ((win0_5.blk t).view.emb y 1).isLt⟩ : Fin 20480) = rowAt t ⟨(y 1).val, (y 1).isLt⟩ :=
    Fin.ext (by show win0_5.index t 1 * 512 + 1 * (y 1).val = 512 * t.val + (y 1).val; rw [h1]; omega)
  rw [e0, e1]

/-- The points' blocks cover the array. -/
theorem covered (i : S16x20480.Idx) : ∃ t : Fin cfg0.N, (cfg0.win 5).flush t = true ∧ i ∈ ((cfg0.win 5).blk t).view.set := by
  have h0 : (i 0).val < 16 := (i 0).isLt
  have h1 : (i 1).val < 20480 := (i 1).isLt
  have hN : cfg0.N = 40 := N_0
  have ht : (i 1).val / 512 < cfg0.N := by omega
  refine ⟨⟨(i 1).val / 512, ht⟩, flush0_5 _, ?_⟩
  obtain ⟨-, -, -, -, -, -, -, -, -, -, e0, e1⟩ := index_facts ⟨(i 1).val / 512, ht⟩
  show i ∈ ((View.whole main_v1).slice (win0_5.rect ⟨(i 1).val / 512, ht⟩)).set
  rw [View.set_slice_whole, Rect.mem_set_unit]
  intro a
  match a with
  | ⟨0, _⟩ =>
    show win0_5.index ⟨(i 1).val / 512, ht⟩ 0 * 16 ≤ (i 0).val ∧ (i 0).val < win0_5.index ⟨(i 1).val / 512, ht⟩ 0 * 16 + 16
    rw [e0]; omega
  | ⟨1, _⟩ =>
    show win0_5.index ⟨(i 1).val / 512, ht⟩ 1 * 512 ≤ (i 1).val ∧ (i 1).val < win0_5.index ⟨(i 1).val / 512, ht⟩ 1 * 512 + 512
    rw [e1]
    show (i 1).val / 512 * 512 ≤ (i 1).val ∧ (i 1).val < (i 1).val / 512 * 512 + 512
    omega

/-- So the array ends holding it. -/
theorem array_eq (c : Dev nD) : (dats (F := Ideal) m 0 c).arrAt 5 cfg0.N = arrayVal m c :=
  (dats (F := Ideal) m 0 c).arrAt_eq_of_cover 5 (arrayVal m c) (fun t _ => flushed_eq m c t) covered

/-- The result, the words read by `read`. -/
def resultVal (read : BitVec 16 → EReal) (X : Vec Ideal S16x1x7168 .bf16) (Qg : Vec Ideal S20480x7168 .i8) (dg : Vec Ideal S20480x224 .i16)
    (Qu : Vec Ideal S20480x7168 .i8) (du : Vec Ideal S20480x224 .i16) (y : S16x1x20480.Idx) : EReal :=
  unitVal read X Qg dg Qu du (⟨(y 0).val, (y 0).isLt⟩ : Fin 16) (⟨(y 2).val, (y 2).isLt⟩ : Fin 20480)

/-- The last reshape. -/
theorem tail_eq (c : Dev nD) : Pipeline.afterTail₀ cfgs (dats (F := Ideal) m) 0 (V0 m) [hostOps1] c main_v2
    = resultVal scaleOfWord (m ((c : Thread nD τ).loc main_arg0)) (m ((c : Thread nD τ).loc main_arg1)) (m ((c : Thread nD τ).loc main_arg2))
      (m ((c : Thread nD τ).loc main_arg3)) (m ((c : Thread nD τ).loc main_arg4)) := by
  have h : Pipeline.afterTail₀ cfgs (dats (F := Ideal) m) 0 (V0 m) [hostOps1] c main_v2
      = shapeCast S16x1x20480 (Pipeline.withArrays (cfgs 0).spec c (V0 m c) (fun w => (dats (F := Ideal) m 0 c).arrAt w (cfgs 0).N)
          (Proc.devRef .tc (Pipeline.arrRef spec0 5))) shapeCasts_S16x20480_S16x1x20480 := by
    unfold Pipeline.afterTail₀
    simp only [hostOps1, List.flatten_cons, List.flatten_nil, List.append_nil, StableHlo.after_cons, StableHlo.after_nil]
    exact (StableHlo.reshape_result (Val := Elt Ideal) main_v1 main_v2 rfl shapeCasts_S16x20480_S16x1x20480 _ _ _).trans rfl
  rw [h]
  have ha : Pipeline.withArrays (cfgs 0).spec c (V0 m c) (fun w => (dats (F := Ideal) m 0 c).arrAt w (cfgs 0).N)
          (Proc.devRef .tc (Pipeline.arrRef spec0 5)) = arrayVal m c :=
    (Pipeline.withArrays_arr spec0 launch0.win.arr_inj c (V0 m c) (fun w => (dats (F := Ideal) m 0 c).arrAt w (cfgs 0).N) 5).trans (array_eq m c)
  rw [ha]
  funext y
  exact add_axis (arrayVal m c) y

/-- The run, read: the result as a function of the arguments, the arguments unchanged. -/
theorem run_value : θ_run defs (onTc (τ := τ) (main (F := Ideal))) ⟨m, fun _ => 0, ρ⟩ (fun r => ∀ c : Dev nD,
      r.2.mem ((c.tc : Thread nD τ).loc main_v2)
        = resultVal scaleOfWord (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Proof.KI

end
-- ==== Proof.RefWeight.lean ====
module

public import proofs.«01_k».proof.Proof.Array
public import proofs.«01_k».proof.Proof.Gen.ReferenceIdeal.Value
public import Idealize.ShloMosaic.Lib.Pipeline.Value
public import Idealize.ShloMosaic.Lib.MatmulPlain

/-! The reference's arithmetic at an index: the dequantised matrices, the two products and the gate. -/

@[expose] public section

noncomputable section

namespace Cert.Proof.RI

open Cert.ReferenceIdeal Cert.ReferenceIdeal.Gen
open Idealize.ShloMosaic Idealize.ShloMosaic.TcCoe Idealize.ShloMosaic.ValueIdx
open scoped BigOperators

section Generic
variable {F : FTy → Type} [FloatOps F]

/-- A matrix of codes times its scales. -/
def dequant (Q : Vec F S20480x7168 .i8) (s : Vec F S20480x224 .f16) : FVec F S20480x7168 .bf16 :=
  truncf .bf16 (shapeCast S20480x7168 (mulf (shapeCast S20480x224x32 (sitofp (F := F) .f32 Q) shapeCasts_S20480x7168_S20480x224x32)
    (broadcastTo S20480x224x32 (shapeCast S20480x224x1 (extf .f32 (shapeCast S20480x224 s shapeCasts_S20480x224_S20480x224 : FVec F S20480x224 .f16) bitsLt_f16_f32)
      shapeCasts_S20480x224_S20480x224x1) broadcasts_S20480x224x1_S20480x224x32)) shapeCasts_S20480x224x32_S20480x7168) bitsLt_bf16_f32

/-- The activations times the transpose of a matrix. -/
def product (X : Vec F S16x1x7168 .bf16) (W : FVec F S20480x7168 .bf16) : FVec F S16x1x20480 .f32 :=
  matmul dot_S16x1x7168_S20480x7168_S16x1x20480_2_1_01_0_n_n none X W (constant S16x1x20480 .f32 0x00000000#32)

/-- What the reference stores, by those two. -/
theorem pay_eq (Qg : Vec F S20480x7168 .i8) (sg : Vec F S20480x224 .f16) (Qu : Vec F S20480x7168 .i8) (su : Vec F S20480x224 .f16)
    (X : Vec F S16x1x7168 .bf16) : k0_pay1 Qg sg Qu su X X
      = truncf .bf16 (mulf (mulf (product X (dequant Qg sg)) (logistic (product X (dequant Qg sg)))) (product X (dequant Qu su))) bitsLt_bf16_f32 := rfl

end Generic

/-- Column `k` of a matrix is position `k % 32` of group `k / 32`. -/
theorem ungroup (Y : S20480x224x32.Idx → EReal) (r : Fin 20480) (k : Fin 7168) :
    shapeCast S20480x7168 Y shapeCasts_S20480x224x32_S20480x7168 (ix2 r k)
      = Y (ix3 r (⟨k.val / 32, by omega⟩ : Fin 224) (⟨k.val % 32, by omega⟩ : Fin 32)) := by
  refine shapeCast_apply _ _ _ _ ?_
  rw [Shape.rowMajor_val_two, Shape.rowMajor_val_three]
  show (r.val * 224 + k.val / 32) * 32 + k.val % 32 = r.val * 7168 + k.val
  omega

/-- And back. -/
theorem group (Y : S20480x7168.Idx → EReal) (r : Fin 20480) (k : Fin 7168) :
    shapeCast S20480x224x32 Y shapeCasts_S20480x7168_S20480x224x32 (ix3 r (⟨k.val / 32, by omega⟩ : Fin 224) (⟨k.val % 32, by omega⟩ : Fin 32))
      = Y (ix2 r k) := by
  refine shapeCast_apply _ _ _ _ ?_
  rw [Shape.rowMajor_val_two, Shape.rowMajor_val_three]
  show r.val * 7168 + k.val = (r.val * 224 + k.val / 32) * 32 + k.val % 32
  omega

/-- A group's scale, spread over the group. -/
theorem spread (s : S20480x224.Idx → EReal) (r : Fin 20480) (g : Fin 224) (j : Fin 32) :
    broadcastTo S20480x224x32 (shapeCast S20480x224x1 s shapeCasts_S20480x224_S20480x224x1) broadcasts_S20480x224x1_S20480x224x32 (ix3 r g j)
      = s (ix2 r g) := by
  refine (broadcastTo_apply _ _ (ix3 r g j) (ix3 r g (0 : Fin 1)) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show r.val * 224 + g.val = (r.val * 224 + g.val) * 1 + 0
    omega

/-- A shape cast to the same shape reads the same. -/
theorem same (s : S20480x224.Idx → EReal) (r : Fin 20480) (g : Fin 224) :
    shapeCast S20480x224 s shapeCasts_S20480x224_S20480x224 (ix2 r g) = s (ix2 r g) :=
  shapeCast_apply _ _ _ _ rfl

/-- An entry of a dequantised matrix. -/
theorem dequant_apply (Q : Vec Ideal S20480x7168 .i8) (s : Vec Ideal S20480x224 .f16) (r : Fin 20480) (k : Fin 7168) :
    dequant Q s (ix2 r k) = (((Q (ix2 r k)).toInt : ℝ) : EReal) * s (ix2 r (⟨k.val / 32, by omega⟩ : Fin 224)) := by
  refine (ungroup (fun i => shapeCast S20480x224x32 (fun j => (((Q j).toInt : ℝ) : EReal)) shapeCasts_S20480x7168_S20480x224x32 i
    * broadcastTo S20480x224x32 (shapeCast S20480x224x1 (shapeCast S20480x224 s shapeCasts_S20480x224_S20480x224)
      shapeCasts_S20480x224_S20480x224x1) broadcasts_S20480x224x1_S20480x224x32 i) r k).trans ?_
  rw [group, spread, same]

/-- An entry of a product. -/
theorem product_apply (X : Vec Ideal S16x1x7168 .bf16) (W : FVec Ideal S20480x7168 .bf16) (b : Fin 16) (r : Fin 20480) :
    product X W (ix3 b (0 : Fin 1) r) = ∑ k : Fin 7168, X (ix3 b (0 : Fin 1) k) * W (ix2 r k) := by
  have hr : dot_S16x1x7168_S20480x7168_S16x1x20480_2_1_01_0_n_n.contr.rank = 1 := rfl
  have hs : dot_S16x1x7168_S20480x7168_S16x1x20480_2_1_01_0_n_n.contr.size ⟨0, by rw [hr]; exact Nat.one_pos⟩ = 7168 := rfl
  show FloatOps.matmul dot_S16x1x7168_S20480x7168_S16x1x20480_2_1_01_0_n_n none X W (constant S16x1x20480 .f32 0x00000000#32) (ix3 b (0 : Fin 1) r) = _
  rw [Ideal.matmul_constant_zero_apply, ← Equiv.sum_comp (contrEquiv1 dot_S16x1x7168_S20480x7168_S16x1x20480_2_1_01_0_n_n 7168 hr hs).symm]
  refine Finset.sum_congr rfl fun k _ => ?_
  have hk := contrEquiv1_symm_val dot_S16x1x7168_S20480x7168_S16x1x20480_2_1_01_0_n_n 7168 hr hs k
  have el : dot_S16x1x7168_S20480x7168_S16x1x20480_2_1_01_0_n_n.lhsIdx (ix3 b (0 : Fin 1) r)
      ((contrEquiv1 dot_S16x1x7168_S20480x7168_S16x1x20480_2_1_01_0_n_n 7168 hr hs).symm k) = ix3 b (0 : Fin 1) k := by
    funext a; apply Fin.ext
    match a with
    | ⟨0, _⟩ => rfl
    | ⟨1, _⟩ => rfl
    | ⟨2, _⟩ => exact hk
  have er : dot_S16x1x7168_S20480x7168_S16x1x20480_2_1_01_0_n_n.rhsIdx (ix3 b (0 : Fin 1) r)
      ((contrEquiv1 dot_S16x1x7168_S20480x7168_S16x1x20480_2_1_01_0_n_n 7168 hr hs).symm k) = ix2 r k := by
    funext a; apply Fin.ext
    match a with
    | ⟨0, _⟩ => rfl
    | ⟨1, _⟩ => exact hk
  rw [el, er]

/-- The product with a dequantised matrix whose scales are words read by `read`. -/
theorem product_dequant (read : BitVec 16 → EReal) (X : Vec Ideal S16x1x7168 .bf16) (Q : Vec Ideal S20480x7168 .i8) (d : Vec Ideal S20480x224 .i16)
    (b : Fin 16) (r : Fin 20480) :
    product X (dequant Q (fun i => read (d i))) (ix3 b (0 : Fin 1) r) = KI.rowDot read X Q d b r := by
  rw [product_apply]
  unfold KI.rowDot
  exact Finset.sum_congr rfl fun k _ => by rw [dequant_apply]

/-- The gate at an index. -/
theorem gate_apply (G U : FVec Ideal S16x1x20480 .f32) (y : S16x1x20480.Idx) :
    truncf .bf16 (mulf (mulf G (logistic G)) U) bitsLt_bf16_f32 y = KI.gated (G y) (U y) := rfl

/-- What the reference stores, at an index. -/
theorem pay_apply (read : BitVec 16 → EReal) (X : Vec Ideal S16x1x7168 .bf16) (Qg : Vec Ideal S20480x7168 .i8) (dg : Vec Ideal S20480x224 .i16)
    (Qu : Vec Ideal S20480x7168 .i8) (du : Vec Ideal S20480x224 .i16) :
    k0_pay1 Qg (fun i => read (dg i)) Qu (fun i => read (du i)) X X = KI.resultVal read X Qg dg Qu du := by
  rw [pay_eq]
  funext y
  have hy : y = ix3 (⟨(y 0).val, (y 0).isLt⟩ : Fin 16) (0 : Fin 1) (⟨(y 2).val, (y 2).isLt⟩ : Fin 20480) := by
    funext a; apply Fin.ext
    match a with
    | ⟨0, _⟩ => rfl
    | ⟨1, _⟩ => have h : (y 1).val < 1 := (y 1).isLt; show (y 1).val = 0; omega
    | ⟨2, _⟩ => rfl
  have hg := product_dequant read X Qg dg (⟨(y 0).val, (y 0).isLt⟩ : Fin 16) (⟨(y 2).val, (y 2).isLt⟩ : Fin 20480)
  have hu := product_dequant read X Qu du (⟨(y 0).val, (y 0).isLt⟩ : Fin 16) (⟨(y 2).val, (y 2).isLt⟩ : Fin 20480)
  rw [← hy] at hg hu
  unfold KI.resultVal KI.unitVal
  rw [gate_apply, hg, hu]

end Cert.Proof.RI

end
-- ==== Proof.Reference.lean ====
module

public import proofs.«01_k».proof.Proof.RefWeight

/-! What the reference's run leaves in the result over the extended reals, as one function of the arguments. -/

@[expose] public section

noncomputable section

namespace Cert.Proof.RI

open Cert.ReferenceIdeal Cert.ReferenceIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The gate's scales the body finds are the words read as half-precision floats. -/
theorem entry_gate_scale (c : Dev nD) : V m c main_v0 = (fun i => Ideal.ofBits .f16 (m ((c : Thread nD τ).loc main_arg2) i)) := by
  show StableHlo.after hostOps0 (fun b => m (c, b)) (Proc.devRef .tc main_v0) = _
  simp only [hostOps0, StableHlo.after_cons, StableHlo.after_nil]
  rw [StableHlo.unary_result_ne (h := (by decide : main_v0 ≠ main_v1))]
  exact (StableHlo.unary_result _ _ _ _ _ _).trans rfl

/-- And so are the up matrix's. -/
theorem entry_up_scale (c : Dev nD) : V m c main_v1 = (fun i => Ideal.ofBits .f16 (m ((c : Thread nD τ).loc main_arg4) i)) := by
  show StableHlo.after hostOps0 (fun b => m (c, b)) (Proc.devRef .tc main_v1) = _
  simp only [hostOps0, StableHlo.after_cons, StableHlo.after_nil]
  refine (StableHlo.unary_result _ _ _ _ _ _).trans ?_
  rw [StableHlo.unary_result_ne (h := (by decide : main_arg4 ≠ main_v0))]
  rfl

/-- The one point's block of the activations is the argument. -/
theorem block_x (c : Dev nD) (t : Fin cfg0.N) : iblk m c 0 t = m ((c : Thread nD τ).loc main_arg0) := by
  refine Eq.trans (funext fun i => congrArg (V m c main_arg0) (funext fun a => Fin.ext ?_)) (V_main_arg0 m c)
  show 0 * S16x1x7168.size a + 1 * (i a).val = (i a).val
  omega

/-- Of the gate's codes. -/
theorem block_gate (c : Dev nD) (t : Fin cfg0.N) : iblk m c 1 t = m ((c : Thread nD τ).loc main_arg1) := by
  refine Eq.trans (funext fun i => congrArg (V m c main_arg1) (funext fun a => Fin.ext ?_)) (V_main_arg1 m c)
  show 0 * S20480x7168.size a + 1 * (i a).val = (i a).val
  omega

/-- Of the gate's scales. -/
theorem block_gate_scale (c : Dev nD) (t : Fin cfg0.N) : iblk m c 2 t = (fun i => Ideal.ofBits .f16 (m ((c : Thread nD τ).loc main_arg2) i)) := by
  refine Eq.trans (funext fun i => congrArg (V m c main_v0) (funext fun a => Fin.ext ?_)) (entry_gate_scale m c)
  show 0 * S20480x224.size a + 1 * (i a).val = (i a).val
  omega

/-- Of the up matrix's codes. -/
theorem block_up (c : Dev nD) (t : Fin cfg0.N) : iblk m c 3 t = m ((c : Thread nD τ).loc main_arg3) := by
  refine Eq.trans (funext fun i => congrArg (V m c main_arg3) (funext fun a => Fin.ext ?_)) (V_main_arg3 m c)
  show 0 * S20480x7168.size a + 1 * (i a).val = (i a).val
  omega

/-- Of the up matrix's scales. -/
theorem block_up_scale (c : Dev nD) (t : Fin cfg0.N) : iblk m c 4 t = (fun i => Ideal.ofBits .f16 (m ((c : Thread nD τ).loc main_arg4) i)) := by
  refine Eq.trans (funext fun i => congrArg (V m c main_v1) (funext fun a => Fin.ext ?_)) (entry_up_scale m c)
  show 0 * S20480x224.size a + 1 * (i a).val = (i a).val
  omega

section Generic
variable {F : FTy → Type} [FloatOps F]

/-- The body stores the whole of its output, from the whole of its inputs. -/
theorem out_eq (x0 : Vec F S16x1x7168 .bf16) (x1 : Vec F S20480x7168 .i8) (x2 : Vec F S20480x224 .f16) (x3 : Vec F S20480x7168 .i8)
    (x4 : Vec F S20480x224 .f16) : out0_5 x0 x1 x2 x3 x4 = k0_pay1 x1 x2 x3 x4 x0 x0 := by
  have z2 : (![0, 0] : Fin 2 → ℕ) = fun _ => 0 := by funext a; match a with | ⟨0, _⟩ => rfl | ⟨1, _⟩ => rfl
  have z3 : (![0, 0, 0] : Fin 3 → ℕ) = fun _ => 0 := by funext a; match a with | ⟨0, _⟩ => rfl | ⟨1, _⟩ => rfl | ⟨2, _⟩ => rfl
  unfold out0_5
  rw [View.canon_unit_zero (Val := Elt F) z3, View.ld_unit_zero (Val := Elt F) z2, View.ld_unit_zero (Val := Elt F) z2,
    View.ld_unit_zero (Val := Elt F) z2, View.ld_unit_zero (Val := Elt F) z2, View.ld_unit_zero (Val := Elt F) z3]

end Generic

/-- The result: the words read as half-precision floats. -/
def whole (c : Dev nD) (y : S16x1x20480.Idx) : EReal :=
  KI.resultVal (Ideal.ofBits .f16) (m ((c : Thread nD τ).loc main_arg0)) (m ((c : Thread nD τ).loc main_arg1)) (m ((c : Thread nD τ).loc main_arg2))
    (m ((c : Thread nD τ).loc main_arg3)) (m ((c : Thread nD τ).loc main_arg4)) y

/-- What the point writes back. -/
theorem flushed_eq (c : Dev nD) (t : Fin cfg0.N) :
    (dats (F := Ideal) m 0 c).flushed 5 t = (win0_5.blk t).view.read (Elt Ideal) (whole m c) := by
  rw [Value.flushed5, out_eq, block_x, block_gate, block_gate_scale, block_up, block_up_scale]
  refine (congrArg ((cfg0.win 5).cut (grid0.coords t)) (pay_apply (Ideal.ofBits .f16) (m ((c : Thread nD τ).loc main_arg0))
    (m ((c : Thread nD τ).loc main_arg1)) (m ((c : Thread nD τ).loc main_arg2)) (m ((c : Thread nD τ).loc main_arg3))
    (m ((c : Thread nD τ).loc main_arg4)))).trans ?_
  funext y
  show whole m c y = whole m c ((win0_5.blk t).view.emb y)
  refine congrArg (whole m c) (funext fun a => Fin.ext ?_)
  show (y a).val = 0 * S16x1x20480.size a + 1 * (y a).val
  omega

/-- Its block is the array. -/
theorem covered (i : S16x1x20480.Idx) : ∃ t : Fin cfg0.N, (cfg0.win 5).flush t = true ∧ i ∈ ((cfg0.win 5).blk t).view.set := by
  refine ⟨t0_0, flush0_5 _, ?_⟩
  show i ∈ ((View.whole main_v2).slice (win0_5.rect t0_0)).set
  rw [View.set_slice_whole, Rect.mem_set_unit]
  intro a
  have h := (i a).isLt
  show 0 * S16x1x20480.size a ≤ (i a).val ∧ (i a).val < 0 * S16x1x20480.size a + S16x1x20480.size a
  constructor
  · omega
  · rw [Nat.zero_mul, Nat.zero_add]; exact h

/-- The run, read: the result as a function of the arguments, the arguments unchanged. -/
theorem run_value : θ_run defs (onTc (τ := τ) (main (F := Ideal))) ⟨m, fun _ => 0, ρ⟩ (fun r => ∀ c : Dev nD,
      r.2.mem ((c.tc : Thread nD τ).loc main_v2) = whole m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans ((dats (F := Ideal) m 0 c).arrAt_eq_of_cover 5 (whole m c) (fun t _ => flushed_eq m c t) covered), (h c).2⟩)
    (Value.run_blocks m ρ)

end Cert.Proof.RI

end
-- ==== Proof.Finite.lean ====
module

public import proofs.«01_k».proof.Defs
public import proofs.«01_k».proof.Proof.Reference
public import Idealize.ShloMosaic.Lib.ReduceAll

/-! The precondition: every scale word has an exponent field other than all ones. Under it the kernel's reading of the
words is the reference's. -/

@[expose] public section

noncomputable section

namespace Cert.Proof

open Idealize.ShloMosaic Idealize.ShloMosaic.TcCoe Idealize.ShloMosaic.ValueIdx
open scoped BigOperators

/-- The side conditions of the precondition's operations. -/
theorem pre_facts : Cert.Pre_finite_scales.Facts where
  natLt_16_32 := by decide
  bcast_S_S20480x224 := by decide
  reducesTo_S20480x224_S_d0_1 := by decide
  h_S_ := by decide

/-- A word that the precondition's test admits is finite. -/
theorem finite_of_test (h : BitVec 16) (e : IntOp.cmpi .ne (IntOp.andi (h.signExtend 32) 31744#32) 31744#32 = 1#1) : KI.FiniteWord h := by
  intro hf
  have h5 : h.extractLsb' 10 5 = 31#5 := BitVec.eq_of_toNat_eq hf
  have hb : ∀ i : ℕ, i < 5 → h.getLsbD (10 + i) = true := by
    intro i hi
    have hw := congrArg (fun w : BitVec 5 => w.getLsbD i) h5
    simp only [BitVec.getLsbD_extractLsb', hi, decide_true, Bool.true_and] at hw
    rw [hw]
    clear hw
    revert i
    decide
  have hm : h.signExtend 32 &&& 31744#32 = 31744#32 := by
    refine BitVec.eq_of_getLsbD_eq fun i hi => ?_
    have hc : ∀ i : ℕ, i < 32 → (31744#32).getLsbD i = true → 10 ≤ i ∧ i < 15 := by decide
    rw [BitVec.getLsbD_and]
    by_cases hk : (31744#32).getLsbD i = true
    · obtain ⟨h1, h2⟩ := hc i hi hk
      have := hb (i - 10) (by omega)
      rw [Nat.add_sub_cancel' h1] at this
      rw [BitVec.getLsbD_signExtend, hk]
      simp [this, hi, show i < 16 by omega]
    · rw [Bool.not_eq_true] at hk
      rw [hk, Bool.and_false]
  rw [show IntOp.andi (h.signExtend 32) 31744#32 = 31744#32 from hm] at e
  exact absurd e (by decide)

/-- A reduction of the test over a table that came out one admitted every word. -/
theorem finite_of_reduce (d : IVec Cert.Pre_finite_scales.S20480x224 16) (hlt : 16 < 32)
    (hb : Cert.Pre_finite_scales.S_.BroadcastsInDim Cert.Pre_finite_scales.S20480x224 (![] : Fin 0 → Fin Cert.Pre_finite_scales.S20480x224.rank))
    (hr : Cert.Pre_finite_scales.S20480x224.ReducesTo [0, 1] Cert.Pre_finite_scales.S_) (hu : 0 < Cert.Pre_finite_scales.S_.numel)
    (j : Cert.Pre_finite_scales.S_.Idx)
    (e : Host.reduce IntOp.andi (cmpi .ne (andi (extsi 32 d hlt) (broadcastInDim Cert.Pre_finite_scales.S20480x224 ![] hb (constantI Cert.Pre_finite_scales.S_ 32 31744#32)))
      (broadcastInDim Cert.Pre_finite_scales.S20480x224 ![] hb (constantI Cert.Pre_finite_scales.S_ 32 31744#32))) (constantI Cert.Pre_finite_scales.S_ 1 1#1) hr hu j = 1#1)
    (i : Cert.Pre_finite_scales.S20480x224.Idx) : KI.FiniteWord (d i) := by
  haveI : Subsingleton Cert.Pre_finite_scales.S_.Idx := ⟨fun a b => funext fun x => x.elim0⟩
  exact finite_of_test (d i) (Host.reduce_andi_all _ _ hr hu j e i)

/-- The precondition, read: both tables' words are all finite. -/
theorem finite_of_pre [Cert.Pre_finite_scales.Facts] {F : FTy → Type} [FloatOps F] (X : FVec F Cert.Pre_finite_scales.S16x1x7168 .bf16)
    (Qg : IVec Cert.Pre_finite_scales.S20480x7168 8) (dg : IVec Cert.Pre_finite_scales.S20480x224 16)
    (Qu : IVec Cert.Pre_finite_scales.S20480x7168 8) (du : IVec Cert.Pre_finite_scales.S20480x224 16) (j : Cert.Pre_finite_scales.S_.Idx)
    (e : Cert.Pre_finite_scales.fn X Qg dg Qu du j = 1#1) : (∀ i, KI.FiniteWord (dg i)) ∧ ∀ i, KI.FiniteWord (du i) := by
  obtain ⟨e1, e2⟩ := IntOp.andi_eq_one.1 e
  exact ⟨finite_of_reduce dg _ _ _ _ j e1, finite_of_reduce du _ _ _ _ j e2⟩

/-- Dot products whose scale words are finite are the same under the two readings. -/
theorem rowDot_eq (X : Vec Ideal Cert.KernelIdeal.S16x1x7168 .bf16) (Q : Vec Ideal Cert.KernelIdeal.S20480x7168 .i8)
    (d : Vec Ideal Cert.KernelIdeal.S20480x224 .i16) (hd : ∀ i, KI.FiniteWord (d i)) (b : Fin 16) (r : Fin 20480) :
    KI.rowDot KI.scaleOfWord X Q d b r = KI.rowDot (Ideal.ofBits .f16) X Q d b r := by
  unfold KI.rowDot
  exact Finset.sum_congr rfl fun k _ => by rw [KI.scaleOfWord_eq (hd _)]

/-- And so are the results. -/
theorem resultVal_eq (X : Vec Ideal Cert.KernelIdeal.S16x1x7168 .bf16) (Qg : Vec Ideal Cert.KernelIdeal.S20480x7168 .i8)
    (dg : Vec Ideal Cert.KernelIdeal.S20480x224 .i16) (Qu : Vec Ideal Cert.KernelIdeal.S20480x7168 .i8) (du : Vec Ideal Cert.KernelIdeal.S20480x224 .i16)
    (hg : ∀ i, KI.FiniteWord (dg i)) (hu : ∀ i, KI.FiniteWord (du i)) :
    KI.resultVal KI.scaleOfWord X Qg dg Qu du = KI.resultVal (Ideal.ofBits .f16) X Qg dg Qu du := by
  funext y
  unfold KI.resultVal KI.unitVal
  rw [rowDot_eq X Qg dg hg, rowDot_eq X Qu du hu]

end Cert.Proof

end
-- ==== Proof.lean ====
/- The claims, assembled. -/
module

public import proofs.«01_k».proof.Defs
public import proofs.«01_k».proof.Proof.Run
public import proofs.«01_k».proof.Proof.Bits.Run
public import proofs.«01_k».proof.Proof.Gen.ReferenceIdeal.Frame
public import proofs.«01_k».proof.Proof.Gen.ReferenceIdeal
public import proofs.«01_k».proof.Proof.Array
public import proofs.«01_k».proof.Proof.Reference
public import proofs.«01_k».proof.Proof.Finite

@[expose] public section

noncomputable section

open Idealize.ShloMosaic Idealize.ShloMosaic.TcCoe Idealize.SL.Sem

/-- Under the precondition the kernel's result and the reference's are one function of the arguments: the kernel's reading
of the scale words is the half-precision floats that they are. -/
theorem Cert.Proof.values_agree [Cert.Pre_finite_scales.Facts] :
    Cert.algebraic_KernelIdeal_ReferenceIdeal_pre_finite_scales (hKernelIdeal := Cert.KernelIdeal.Gen.facts) (hReferenceIdeal := Cert.ReferenceIdeal.Gen.facts) := by
  intro m g m' g' hpre hargs
  refine ⟨fun c => Cert.Proof.RI.whole m' c, (θ_run _ _ _).mono (fun r h c => ⟨(h c).1.trans ?_, (h c).2⟩) (Cert.Proof.KI.run_value m g),
    Cert.Proof.RI.run_value m' g'⟩
  obtain ⟨hg, hu⟩ := Cert.Proof.finite_of_pre _ _ _ _ _ (fun x => x.elim0) (congrFun (hpre c) _)
  obtain ⟨h0, h1, h2, h3, h4⟩ := hargs c
  refine (Cert.Proof.resultVal_eq _ _ _ _ _ hg hu).trans (funext fun y => ?_)
  unfold Cert.Proof.RI.whole
  exact (congrFun (congr (congr (congr (congr (congrArg (Cert.Proof.KI.resultVal (Ideal.ofBits .f16)) h0) h1) h2) h3) h4) y).symm

/-- Each program's frame, with and without the precondition; the ideal program's being the kernel over the extended reals; and
the results' being equal. -/
theorem Cert.Proof.claim : Cert.Claim :=
  ⟨Cert.Kernel.Gen.facts, Cert.KernelIdeal.Gen.facts, Cert.ReferenceIdeal.Gen.facts, Cert.Proof.pre_facts,
    fun m ρ _ => Cert.Proof.K.frame m ρ, fun m ρ _ => Cert.Proof.KI.frame m ρ, fun m ρ _ => Cert.Proof.KI.frame m ρ,
    fun m ρ _ => Cert.ReferenceIdeal.Gen.frame m ρ, fun m ρ _ => Cert.ReferenceIdeal.Gen.frame m ρ, trivial,
    haveI := Cert.Proof.pre_facts; Cert.Proof.values_agree⟩

end
